-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_theta [hPre_finite_theta : Cert.Pre_finite_theta.Facts] (m : (ℓ : Loc Cert.KernelIdeal.nD Cert.KernelIdeal.τ Cert.KernelIdeal.sig) → Buf (Elt Ideal) ℓ) : Prop :=
  ∀ c : Dev Cert.KernelIdeal.nD,
    (Cert.Pre_finite_theta.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_theta [hPre_finite_theta : Cert.Pre_finite_theta.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_theta.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_theta [hKernelIdeal : Cert.KernelIdeal.Facts] [hPre_finite_theta : Cert.Pre_finite_theta.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_theta m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_theta [hReferenceIdeal : Cert.ReferenceIdeal.Facts] [hPre_finite_theta : Cert.Pre_finite_theta.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_theta m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite_theta [hKernelIdeal : Cert.KernelIdeal.Facts] [hReferenceIdeal : Cert.ReferenceIdeal.Facts] [hPre_finite_theta : Cert.Pre_finite_theta.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_theta m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v583) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_theta : Cert.Pre_finite_theta.Facts),
    quiescent_Kernel (hKernel := hKernel)
    ∧ quiescent_KernelIdeal (hKernelIdeal := hKernelIdeal)
    ∧ quiescent_KernelIdeal_pre_finite_theta (hKernelIdeal := hKernelIdeal) (hPre_finite_theta := hPre_finite_theta)
    ∧ quiescent_ReferenceIdeal (hReferenceIdeal := hReferenceIdeal)
    ∧ quiescent_ReferenceIdeal_pre_finite_theta (hReferenceIdeal := hReferenceIdeal) (hPre_finite_theta := hPre_finite_theta)
    ∧ preserves_Kernel_KernelIdeal
    ∧ algebraic_KernelIdeal_ReferenceIdeal_pre_finite_theta (hKernelIdeal := hKernelIdeal) (hReferenceIdeal := hReferenceIdeal) (hPre_finite_theta := hPre_finite_theta)
-- ==== Pre_finite_theta.lean ====
abbrev S2048x3x28x28 : Shape := ⟨4, ![2048, 3, 28, 28]⟩
abbrev S32x3x3x3 : Shape := ⟨4, ![32, 3, 3, 3]⟩
abbrev S32 : Shape := ⟨1, ![32]⟩
abbrev S64x32x3x3 : Shape := ⟨4, ![64, 32, 3, 3]⟩
abbrev S64 : Shape := ⟨1, ![64]⟩
abbrev S512x2304 : Shape := ⟨2, ![512, 2304]⟩
abbrev S512 : Shape := ⟨1, ![512]⟩
abbrev S10x512 : Shape := ⟨2, ![10, 512]⟩
abbrev S10 : Shape := ⟨1, ![10]⟩
abbrev S64x8 : Shape := ⟨2, ![64, 8]⟩
abbrev S32x64 : Shape := ⟨2, ![32, 64]⟩
abbrev S512x544 : Shape := ⟨2, ![512, 544]⟩
abbrev S3x8 : Shape := ⟨2, ![3, 8]⟩
abbrev S_ : Shape := ⟨0, ![]⟩

class Facts : Prop where
  bcast_S_S3x8 : S_.BroadcastsInDim S3x8 (![] : Fin 0 → Fin S3x8.rank)

variable [Facts]

def fn {F : FTy → Type} [FloatOps F] (main_arg0 : FVec F S2048x3x28x28 .f32) (main_arg1 : FVec F S32x3x3x3 .f32) (main_arg2 : FVec F S32 .f32) (main_arg3 : FVec F S64x32x3x3 .f32) (main_arg4 : FVec F S64 .f32) (main_arg5 : FVec F S512x2304 .f32) (main_arg6 : FVec F S512 .f32) (main_arg7 : FVec F S10x512 .f32) (main_arg8 : FVec F S10 .f32) (main_arg9 : FVec F S64x8 .f32) (main_arg10 : FVec F S64 .f32) (main_arg11 : FVec F S32x64 .f32) (main_arg12 : FVec F S32 .f32) (main_arg13 : FVec F S32x64 .f32) (main_arg14 : FVec F S32 .f32) (main_arg15 : FVec F S512x544 .f32) (main_arg16 : FVec F S512 .f32) (main_arg17 : FVec F S3x8 .f32) : IVec S3x8 1 :=
  let main_v0 : FVec F S3x8 .f32 := Host.absf main_arg17
  let main_cst : FVec F S_ .f32 := constant S_ .f32 0x7F800000#32
  let main_v1 : FVec F S3x8 .f32 := broadcastInDim S3x8 ![] bcast_S_S3x8 main_cst
  let main_v2 : IVec S3x8 1 := cmpf .olt main_v0 main_v1
  main_v2
-- ==== Kernel.lean ====
abbrev S2048x3x28x28 : Shape := ⟨4, ![2048, 3, 28, 28]⟩
abbrev S32x3x3x3 : Shape := ⟨4, ![32, 3, 3, 3]⟩
abbrev S32 : Shape := ⟨1, ![32]⟩
abbrev S64x32x3x3 : Shape := ⟨4, ![64, 32, 3, 3]⟩
abbrev S64 : Shape := ⟨1, ![64]⟩
abbrev S512x2304 : Shape := ⟨2, ![512, 2304]⟩
abbrev S512 : Shape := ⟨1, ![512]⟩
abbrev S10x512 : Shape := ⟨2, ![10, 512]⟩
abbrev S10 : Shape := ⟨1, ![10]⟩
abbrev S64x8 : Shape := ⟨2, ![64, 8]⟩
abbrev S32x64 : Shape := ⟨2, ![32, 64]⟩
abbrev S512x544 : Shape := ⟨2, ![512, 544]⟩
abbrev S3x8 : Shape := ⟨2, ![3, 8]⟩
abbrev S3x28x14x2 : Shape := ⟨4, ![3, 28, 14, 2]⟩
abbrev S3x14x6x2 : Shape := ⟨4, ![3, 14, 6, 2]⟩
abbrev S384x64 : Shape := ⟨2, ![384, 64]⟩
abbrev S6x384x8 : Shape := ⟨3, ![6, 384, 8]⟩
abbrev S13x256 : Shape := ⟨2, ![13, 256]⟩
abbrev S13x1x256 : Shape := ⟨3, ![13, 1, 256]⟩
abbrev S256x8 : Shape := ⟨2, ![256, 8]⟩
abbrev S_ : Shape := ⟨0, ![]⟩
abbrev S2048x3x30x28 : Shape := ⟨4, ![2048, 3, 30, 28]⟩
abbrev S30x2048x3x28 : Shape := ⟨4, ![30, 2048, 3, 28]⟩
abbrev S30x2048x84 : Shape := ⟨3, ![30, 2048, 84]⟩
abbrev S28x14x2x32x3x3 : Shape := ⟨6, ![28, 14, 2, 32, 3, 3]⟩
abbrev S2x3x3x28x32x14 : Shape := ⟨6, ![2, 3, 3, 28, 32, 14]⟩
abbrev S2x252x448 : Shape := ⟨3, ![2, 252, 448]⟩
abbrev S14x6x2x64x32x3 : Shape := ⟨6, ![14, 6, 2, 64, 32, 3]⟩
abbrev S3x32x14x2x64x6 : Shape := ⟨6, ![3, 32, 14, 2, 64, 6]⟩
abbrev S3x448x768 : Shape := ⟨3, ![3, 448, 768]⟩
abbrev S512x64x6x6 : Shape := ⟨4, ![512, 64, 6, 6]⟩
abbrev S6x64x6x512 : Shape := ⟨4, ![6, 64, 6, 512]⟩
abbrev S6x384x512 : Shape := ⟨3, ![6, 384, 512]⟩
abbrev S6x384x64 : Shape := ⟨3, ![6, 384, 64]⟩
abbrev S6x384x72 : Shape := ⟨3, ![6, 384, 72]⟩
abbrev S13x256x256 : Shape := ⟨3, ![13, 256, 256]⟩
abbrev S32x14 : Shape := ⟨2, ![32, 14]⟩
abbrev S448 : Shape := ⟨1, ![448]⟩
abbrev S64x6 : Shape := ⟨2, ![64, 6]⟩
abbrev S384 : Shape := ⟨1, ![384]⟩
abbrev S1344 : Shape := ⟨1, ![1344]⟩
abbrev S1x1344 : Shape := ⟨2, ![1, 1344]⟩
abbrev S1x64 : Shape := ⟨2, ![1, 64]⟩
abbrev S1x32 : Shape := ⟨2, ![1, 32]⟩
abbrev S1x512 : Shape := ⟨2, ![1, 512]⟩
abbrev S1x10 : Shape := ⟨2, ![1, 10]⟩
abbrev S2048x10 : Shape := ⟨2, ![2048, 10]⟩
abbrev S30x256x84 : Shape := ⟨3, ![30, 256, 84]⟩
abbrev S256x10 : Shape := ⟨2, ![256, 10]⟩
abbrev S28x256x84 : Shape := ⟨3, ![28, 256, 84]⟩
abbrev S28x256x252 : Shape := ⟨3, ![28, 256, 252]⟩
abbrev S7168x252 : Shape := ⟨2, ![7168, 252]⟩
abbrev S1x252x448 : Shape := ⟨3, ![1, 252, 448]⟩
abbrev S252x448 : Shape := ⟨2, ![252, 448]⟩
abbrev S7168x448 : Shape := ⟨2, ![7168, 448]⟩
abbrev S14x2x256x448 : Shape := ⟨4, ![14, 2, 256, 448]⟩
abbrev S14x1x256x448 : Shape := ⟨4, ![14, 1, 256, 448]⟩
abbrev S14x256x448 : Shape := ⟨3, ![14, 256, 448]⟩
abbrev S1x448 : Shape := ⟨2, ![1, 448]⟩
abbrev S1x1x448 : Shape := ⟨3, ![1, 1, 448]⟩
abbrev S7x2x256x448 : Shape := ⟨4, ![7, 2, 256, 448]⟩
abbrev S7x1x256x448 : Shape := ⟨4, ![7, 1, 256, 448]⟩
abbrev S7x256x448 : Shape := ⟨3, ![7, 256, 448]⟩
abbrev S6x256x448 : Shape := ⟨3, ![6, 256, 448]⟩
abbrev S1536x448 : Shape := ⟨2, ![1536, 448]⟩
abbrev S1x448x768 : Shape := ⟨3, ![1, 448, 768]⟩
abbrev S448x768 : Shape := ⟨2, ![448, 768]⟩
abbrev S1536x768 : Shape := ⟨2, ![1536, 768]⟩
abbrev S1536x384 : Shape := ⟨2, ![1536, 384]⟩
abbrev S1x384 : Shape := ⟨2, ![1, 384]⟩
abbrev S6x256x384 : Shape := ⟨3, ![6, 256, 384]⟩
abbrev S1x256x384 : Shape := ⟨3, ![1, 256, 384]⟩
abbrev S256x384 : Shape := ⟨2, ![256, 384]⟩
abbrev S1x384x512 : Shape := ⟨3, ![1, 384, 512]⟩
abbrev S384x512 : Shape := ⟨2, ![384, 512]⟩
abbrev S256x512 : Shape := ⟨2, ![256, 512]⟩
abbrev S1x384x72 : Shape := ⟨3, ![1, 384, 72]⟩
abbrev S384x72 : Shape := ⟨2, ![384, 72]⟩
abbrev S256x72 : Shape := ⟨2, ![256, 72]⟩
abbrev S256x64 : Shape := ⟨2, ![256, 64]⟩
abbrev S256 : Shape := ⟨1, ![256]⟩
abbrev S256x1 : Shape := ⟨2, ![256, 1]⟩
abbrev S256x256 : Shape := ⟨2, ![256, 256]⟩
abbrev S1x8 : Shape := ⟨2, ![1, 8]⟩
abbrev S1x256x256 : Shape := ⟨3, ![1, 256, 256]⟩
abbrev S256x32 : Shape := ⟨2, ![256, 32]⟩
abbrev S512x512 : Shape := ⟨2, ![512, 512]⟩
abbrev S512x32 : Shape := ⟨2, ![512, 32]⟩

abbrev nBuf : Space → Nat
  | .hbm => 66
  | .vmem => 22
  | .smem => 0
  | _ => 0

abbrev bufTy : (tb : Table) → Fin (tcTables nBuf tb) → BufTy
  | .hbm, ⟨0, _⟩ => ⟨S2048x3x28x28, .f32⟩
  | .hbm, ⟨1, _⟩ => ⟨S32x3x3x3, .f32⟩
  | .hbm, ⟨2, _⟩ => ⟨S32, .f32⟩
  | .hbm, ⟨3, _⟩ => ⟨S64x32x3x3, .f32⟩
  | .hbm, ⟨4, _⟩ => ⟨S64, .f32⟩
  | .hbm, ⟨5, _⟩ => ⟨S512x2304, .f32⟩
  | .hbm, ⟨6, _⟩ => ⟨S512, .f32⟩
  | .hbm, ⟨7, _⟩ => ⟨S10x512, .f32⟩
  | .hbm, ⟨8, _⟩ => ⟨S10, .f32⟩
  | .hbm, ⟨9, _⟩ => ⟨S64x8, .f32⟩
  | .hbm, ⟨10, _⟩ => ⟨S64, .f32⟩
  | .hbm, ⟨11, _⟩ => ⟨S32x64, .f32⟩
  | .hbm, ⟨12, _⟩ => ⟨S32, .f32⟩
  | .hbm, ⟨13, _⟩ => ⟨S32x64, .f32⟩
  | .hbm, ⟨14, _⟩ => ⟨S32, .f32⟩
  | .hbm, ⟨15, _⟩ => ⟨S512x544, .f32⟩
  | .hbm, ⟨16, _⟩ => ⟨S512, .f32⟩
  | .hbm, ⟨17, _⟩ => ⟨S3x8, .f32⟩
  | .hbm, ⟨18, _⟩ => ⟨S3x28x14x2, .f32⟩
  | .hbm, ⟨19, _⟩ => ⟨S3x14x6x2, .f32⟩
  | .hbm, ⟨20, _⟩ => ⟨S384x64, .f32⟩
  | .hbm, ⟨21, _⟩ => ⟨S6x384x8, .f32⟩
  | .hbm, ⟨22, _⟩ => ⟨S13x256, .i32⟩
  | .hbm, ⟨23, _⟩ => ⟨S13x1x256, .i32⟩
  | .hbm, ⟨24, _⟩ => ⟨S13x256, .f32⟩
  | .hbm, ⟨25, _⟩ => ⟨S13x1x256, .f32⟩
  | .hbm, ⟨26, _⟩ => ⟨S256x8, .f32⟩
  | .hbm, ⟨27, _⟩ => ⟨S_, .i32⟩
  | .hbm, ⟨28, _⟩ => ⟨S_, .f32⟩
  | .hbm, ⟨29, _⟩ => ⟨S2048x3x30x28, .f32⟩
  | .hbm, ⟨30, _⟩ => ⟨S30x2048x3x28, .f32⟩
  | .hbm, ⟨31, _⟩ => ⟨S30x2048x84, .f32⟩
  | .hbm, ⟨32, _⟩ => ⟨S28x14x2x32x3x3, .f32⟩
  | .hbm, ⟨33, _⟩ => ⟨S2x3x3x28x32x14, .f32⟩
  | .hbm, ⟨34, _⟩ => ⟨S2x252x448, .f32⟩
  | .hbm, ⟨35, _⟩ => ⟨S14x6x2x64x32x3, .f32⟩
  | .hbm, ⟨36, _⟩ => ⟨S3x32x14x2x64x6, .f32⟩
  | .hbm, ⟨37, _⟩ => ⟨S3x448x768, .f32⟩
  | .hbm, ⟨38, _⟩ => ⟨S512x64x6x6, .f32⟩
  | .hbm, ⟨39, _⟩ => ⟨S6x64x6x512, .f32⟩
  | .hbm, ⟨40, _⟩ => ⟨S6x384x512, .f32⟩
  | .hbm, ⟨41, _⟩ => ⟨S_, .f32⟩
  | .hbm, ⟨42, _⟩ => ⟨S384x64, .f32⟩
  | .hbm, ⟨43, _⟩ => ⟨S384x64, .f32⟩
  | .hbm, ⟨44, _⟩ => ⟨S6x384x64, .f32⟩
  | .hbm, ⟨45, _⟩ => ⟨S6x384x72, .f32⟩
  | .hbm, ⟨46, _⟩ => ⟨S13x256x256, .i32⟩
  | .hbm, ⟨47, _⟩ => ⟨S13x256x256, .i32⟩
  | .hbm, ⟨48, _⟩ => ⟨S13x256x256, .i1⟩
  | .hbm, ⟨49, _⟩ => ⟨S_, .f32⟩
  | .hbm, ⟨50, _⟩ => ⟨S_, .f32⟩
  | .hbm, ⟨51, _⟩ => ⟨S13x256x256, .f32⟩
  | .hbm, ⟨52, _⟩ => ⟨S13x256x256, .f32⟩
  | .hbm, ⟨53, _⟩ => ⟨S13x256x256, .f32⟩
  | .hbm, ⟨54, _⟩ => ⟨S32x14, .f32⟩
  | .hbm, ⟨55, _⟩ => ⟨S448, .f32⟩
  | .hbm, ⟨56, _⟩ => ⟨S64x6, .f32⟩
  | .hbm, ⟨57, _⟩ => ⟨S384, .f32⟩
  | .hbm, ⟨58, _⟩ => ⟨S1344, .f32⟩
  | .hbm, ⟨59, _⟩ => ⟨S1x1344, .f32⟩
  | .hbm, ⟨60, _⟩ => ⟨S1x64, .f32⟩
  | .hbm, ⟨61, _⟩ => ⟨S1x32, .f32⟩
  | .hbm, ⟨62, _⟩ => ⟨S1x32, .f32⟩
  | .hbm, ⟨63, _⟩ => ⟨S1x512, .f32⟩
  | .hbm, ⟨64, _⟩ => ⟨S1x10, .f32⟩
  | .hbm, ⟨65, _⟩ => ⟨S2048x10, .f32⟩
  | .local _ .vmem, ⟨0, _⟩ => ⟨S30x256x84, .f32⟩
  | .local _ .vmem, ⟨1, _⟩ => ⟨S30x256x84, .f32⟩
  | .local _ .vmem, ⟨2, _⟩ => ⟨S2x252x448, .f32⟩
  | .local _ .vmem, ⟨3, _⟩ => ⟨S3x448x768, .f32⟩
  | .local _ .vmem, ⟨4, _⟩ => ⟨S6x384x512, .f32⟩
  | .local _ .vmem, ⟨5, _⟩ => ⟨S6x384x72, .f32⟩
  | .local _ .vmem, ⟨6, _⟩ => ⟨S1x1344, .f32⟩
  | .local _ .vmem, ⟨7, _⟩ => ⟨S3x8, .f32⟩
  | .local _ .vmem, ⟨8, _⟩ => ⟨S13x256x256, .f32⟩
  | .local _ .vmem, ⟨9, _⟩ => ⟨S256x8, .f32⟩
  | .local _ .vmem, ⟨10, _⟩ => ⟨S64x8, .f32⟩
  | .local _ .vmem, ⟨11, _⟩ => ⟨S1x64, .f32⟩
  | .local _ .vmem, ⟨12, _⟩ => ⟨S32x64, .f32⟩
  | .local _ .vmem, ⟨13, _⟩ => ⟨S1x32, .f32⟩
  | .local _ .vmem, ⟨14, _⟩ => ⟨S32x64, .f32⟩
  | .local _ .vmem, ⟨15, _⟩ => ⟨S1x32, .f32⟩
  | .local _ .vmem, ⟨16, _⟩ => ⟨S512x544, .f32⟩
  | .local _ .vmem, ⟨17, _⟩ => ⟨S1x512, .f32⟩
  | .local _ .vmem, ⟨18, _⟩ => ⟨S10x512, .f32⟩
  | .local _ .vmem, ⟨19, _⟩ => ⟨S1x10, .f32⟩
  | .local _ .vmem, ⟨20, _⟩ => ⟨S256x10, .f32⟩
  | .local _ .vmem, ⟨21, _⟩ => ⟨S256x10, .f32⟩
  | _, _ => ⟨S2048x3x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_cst_0 : Ref sig .tc := ⟨.hbm, 19, rfl⟩
abbrev main_cst_1 : Ref sig .tc := ⟨.hbm, 20, rfl⟩
abbrev main_cst_2 : Ref sig .tc := ⟨.hbm, 21, rfl⟩
abbrev main_c : Ref sig .tc := ⟨.hbm, 22, rfl⟩
abbrev main_v0 : Ref sig .tc := ⟨.hbm, 23, rfl⟩
abbrev main_cst_3 : Ref sig .tc := ⟨.hbm, 24, rfl⟩
abbrev main_v1 : Ref sig .tc := ⟨.hbm, 25, rfl⟩
abbrev main_cst_4 : Ref sig .tc := ⟨.hbm, 26, rfl⟩
abbrev main_c_5 : Ref sig .tc := ⟨.hbm, 27, rfl⟩
abbrev main_call0_v0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_6 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_7 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S30x256x84 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x252x448 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x448x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x384x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x384x72 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1344 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S13x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x544 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S10x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x10 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x10 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S2048x3x28x28 : Shape := ⟨4, ![2048, 3, 28, 28]⟩
abbrev S32x3x3x3 : Shape := ⟨4, ![32, 3, 3, 3]⟩
abbrev S32 : Shape := ⟨1, ![32]⟩
abbrev S64x32x3x3 : Shape := ⟨4, ![64, 32, 3, 3]⟩
abbrev S64 : Shape := ⟨1, ![64]⟩
abbrev S512x2304 : Shape := ⟨2, ![512, 2304]⟩
abbrev S512 : Shape := ⟨1, ![512]⟩
abbrev S10x512 : Shape := ⟨2, ![10, 512]⟩
abbrev S10 : Shape := ⟨1, ![10]⟩
abbrev S64x8 : Shape := ⟨2, ![64, 8]⟩
abbrev S32x64 : Shape := ⟨2, ![32, 64]⟩
abbrev S512x544 : Shape := ⟨2, ![512, 544]⟩
abbrev S3x8 : Shape := ⟨2, ![3, 8]⟩
abbrev S_ : Shape := ⟨0, ![]⟩
abbrev S2048x3x30x30 : Shape := ⟨4, ![2048, 3, 30, 30]⟩
abbrev S32x3x1x1 : Shape := ⟨4, ![32, 3, 1, 1]⟩
abbrev S32x3 : Shape := ⟨2, ![32, 3]⟩
abbrev S32x2048x28x28 : Shape := ⟨4, ![32, 2048, 28, 28]⟩
abbrev S2048x32x28x28 : Shape := ⟨4, ![2048, 32, 28, 28]⟩
abbrev S1x32x1x1 : Shape := ⟨4, ![1, 32, 1, 1]⟩
abbrev S2048x32x14x14 : Shape := ⟨4, ![2048, 32, 14, 14]⟩
abbrev S2048x32x12x12 : Shape := ⟨4, ![2048, 32, 12, 12]⟩
abbrev S64x32x1x1 : Shape := ⟨4, ![64, 32, 1, 1]⟩
abbrev S64x32 : Shape := ⟨2, ![64, 32]⟩
abbrev S64x2048x12x12 : Shape := ⟨4, ![64, 2048, 12, 12]⟩
abbrev S2048x64x12x12 : Shape := ⟨4, ![2048, 64, 12, 12]⟩
abbrev S1x64x1x1 : Shape := ⟨4, ![1, 64, 1, 1]⟩
abbrev S2048x64x6x6 : Shape := ⟨4, ![2048, 64, 6, 6]⟩
abbrev S2048x2304 : Shape := ⟨2, ![2048, 2304]⟩
abbrev S2048x8 : Shape := ⟨2, ![2048, 8]⟩
abbrev S2048 : Shape := ⟨1, ![2048]⟩
abbrev S2048x1 : Shape := ⟨2, ![2048, 1]⟩
abbrev S2048x256 : Shape := ⟨2, ![2048, 256]⟩
abbrev S1x8 : Shape := ⟨2, ![1, 8]⟩
abbrev S8 : Shape := ⟨1, ![8]⟩
abbrev S2048x8x1 : Shape := ⟨3, ![2048, 8, 1]⟩
abbrev S2048x8x2 : Shape := ⟨3, ![2048, 8, 2]⟩
abbrev S2048x8x1x2 : Shape := ⟨4, ![2048, 8, 1, 2]⟩
abbrev S2048x8x2x2 : Shape := ⟨4, ![2048, 8, 2, 2]⟩
abbrev S2048x1x2x2 : Shape := ⟨4, ![2048, 1, 2, 2]⟩
abbrev S2048x2x2 : Shape := ⟨3, ![2048, 2, 2]⟩
abbrev S2048x1x2x128 : Shape := ⟨4, ![2048, 1, 2, 128]⟩
abbrev S2048x1x128x2 : Shape := ⟨4, ![2048, 1, 128, 2]⟩
abbrev S2048x2x2x64 : Shape := ⟨4, ![2048, 2, 2, 64]⟩
abbrev S2048x2x64x2 : Shape := ⟨4, ![2048, 2, 64, 2]⟩
abbrev S2048x4x2x32 : Shape := ⟨4, ![2048, 4, 2, 32]⟩
abbrev S2048x4x32x2 : Shape := ⟨4, ![2048, 4, 32, 2]⟩
abbrev S2048x8x2x16 : Shape := ⟨4, ![2048, 8, 2, 16]⟩
abbrev S2048x8x16x2 : Shape := ⟨4, ![2048, 8, 16, 2]⟩
abbrev S2048x16x2x8 : Shape := ⟨4, ![2048, 16, 2, 8]⟩
abbrev S2048x16x8x2 : Shape := ⟨4, ![2048, 16, 8, 2]⟩
abbrev S2048x32x2x4 : Shape := ⟨4, ![2048, 32, 2, 4]⟩
abbrev S2048x32x4x2 : Shape := ⟨4, ![2048, 32, 4, 2]⟩
abbrev S2048x64x2x2 : Shape := ⟨4, ![2048, 64, 2, 2]⟩
abbrev S2048x128x2x1 : Shape := ⟨4, ![2048, 128, 2, 1]⟩
abbrev S2048x128x1x2 : Shape := ⟨4, ![2048, 128, 1, 2]⟩
abbrev S2048x1x2x2x64 : Shape := ⟨5, ![2048, 1, 2, 2, 64]⟩
abbrev S2048x1x1x2x64 : Shape := ⟨5, ![2048, 1, 1, 2, 64]⟩
abbrev S2048x2x2x2x32 : Shape := ⟨5, ![2048, 2, 2, 2, 32]⟩
abbrev S2048x2x1x2x32 : Shape := ⟨5, ![2048, 2, 1, 2, 32]⟩
abbrev S2048x4x2x2x16 : Shape := ⟨5, ![2048, 4, 2, 2, 16]⟩
abbrev S2048x4x1x2x16 : Shape := ⟨5, ![2048, 4, 1, 2, 16]⟩
abbrev S2048x8x2x2x8 : Shape := ⟨5, ![2048, 8, 2, 2, 8]⟩
abbrev S2048x8x1x2x8 : Shape := ⟨5, ![2048, 8, 1, 2, 8]⟩
abbrev S2048x16x2x2x4 : Shape := ⟨5, ![2048, 16, 2, 2, 4]⟩
abbrev S2048x16x1x2x4 : Shape := ⟨5, ![2048, 16, 1, 2, 4]⟩
abbrev S2048x32x2x2x2 : Shape := ⟨5, ![2048, 32, 2, 2, 2]⟩
abbrev S2048x32x1x2x2 : Shape := ⟨5, ![2048, 32, 1, 2, 2]⟩
abbrev S2048x64x2x2x1 : Shape := ⟨5, ![2048, 64, 2, 2, 1]⟩
abbrev S2048x64x1x2x1 : Shape := ⟨5, ![2048, 64, 1, 2, 1]⟩
abbrev S2048x2 : Shape := ⟨2, ![2048, 2]⟩
abbrev S8x64 : Shape := ⟨2, ![8, 64]⟩
abbrev S2048x64 : Shape := ⟨2, ![2048, 64]⟩
abbrev S1x64 : Shape := ⟨2, ![1, 64]⟩
abbrev S2048x32 : Shape := ⟨2, ![2048, 32]⟩
abbrev S1x32 : Shape := ⟨2, ![1, 32]⟩
abbrev S2304x512 : Shape := ⟨2, ![2304, 512]⟩
abbrev S2048x512 : Shape := ⟨2, ![2048, 512]⟩
abbrev S1x512 : Shape := ⟨2, ![1, 512]⟩
abbrev S2048x544 : Shape := ⟨2, ![2048, 544]⟩
abbrev S544x512 : Shape := ⟨2, ![544, 512]⟩
abbrev S512x10 : Shape := ⟨2, ![512, 10]⟩
abbrev S2048x10 : Shape := ⟨2, ![2048, 10]⟩
abbrev S1x10 : Shape := ⟨2, ![1, 10]⟩

abbrev nBuf : Space → Nat
  | .hbm => 639
  | .vmem => 0
  | .smem => 0
  | _ => 0

abbrev hbmTy0_0 (i : Nat) : BufTy := match i % 128 with
  | 0 => ⟨S2048x3x28x28, .f32⟩
  | 1 => ⟨S32x3x3x3, .f32⟩
  | 2 => ⟨S32, .f32⟩
  | 3 => ⟨S64x32x3x3, .f32⟩
  | 4 => ⟨S64, .f32⟩
  | 5 => ⟨S512x2304, .f32⟩
  | 6 => ⟨S512, .f32⟩
  | 7 => ⟨S10x512, .f32⟩
  | 8 => ⟨S10, .f32⟩
  | 9 => ⟨S64x8, .f32⟩
  | 10 => ⟨S64, .f32⟩
  | 11 => ⟨S32x64, .f32⟩
  | 12 => ⟨S32, .f32⟩
  | 13 => ⟨S32x64, .f32⟩
  | 14 => ⟨S32, .f32⟩
  | 15 => ⟨S512x544, .f32⟩
  | 16 => ⟨S512, .f32⟩
  | 17 => ⟨S3x8, .f32⟩
  | 18 => ⟨S_, .i32⟩
  | 19 => ⟨S_, .f32⟩
  | 20 => ⟨S2048x3x30x30, .f32⟩
  | 21 => ⟨S2048x3x28x28, .f32⟩
  | 22 => ⟨S32x3x1x1, .f32⟩
  | 23 => ⟨S32x3, .f32⟩
  | 24 => ⟨S32x2048x28x28, .f32⟩
  | 25 => ⟨S2048x32x28x28, .f32⟩
  | 26 => ⟨S_, .f32⟩
  | 27 => ⟨S2048x32x28x28, .f32⟩
  | 28 => ⟨S2048x32x28x28, .f32⟩
  | 29 => ⟨S2048x3x28x28, .f32⟩
  | 30 => ⟨S32x3x1x1, .f32⟩
  | 31 => ⟨S32x3, .f32⟩
  | 32 => ⟨S32x2048x28x28, .f32⟩
  | 33 => ⟨S2048x32x28x28, .f32⟩
  | 34 => ⟨S2048x32x28x28, .f32⟩
  | 35 => ⟨S2048x3x28x28, .f32⟩
  | 36 => ⟨S32x3x1x1, .f32⟩
  | 37 => ⟨S32x3, .f32⟩
  | 38 => ⟨S32x2048x28x28, .f32⟩
  | 39 => ⟨S2048x32x28x28, .f32⟩
  | 40 => ⟨S2048x32x28x28, .f32⟩
  | 41 => ⟨S2048x3x28x28, .f32⟩
  | 42 => ⟨S32x3x1x1, .f32⟩
  | 43 => ⟨S32x3, .f32⟩
  | 44 => ⟨S32x2048x28x28, .f32⟩
  | 45 => ⟨S2048x32x28x28, .f32⟩
  | 46 => ⟨S2048x32x28x28, .f32⟩
  | 47 => ⟨S2048x3x28x28, .f32⟩
  | 48 => ⟨S32x3x1x1, .f32⟩
  | 49 => ⟨S32x3, .f32⟩
  | 50 => ⟨S32x2048x28x28, .f32⟩
  | 51 => ⟨S2048x32x28x28, .f32⟩
  | 52 => ⟨S2048x32x28x28, .f32⟩
  | 53 => ⟨S2048x3x28x28, .f32⟩
  | 54 => ⟨S32x3x1x1, .f32⟩
  | 55 => ⟨S32x3, .f32⟩
  | 56 => ⟨S32x2048x28x28, .f32⟩
  | 57 => ⟨S2048x32x28x28, .f32⟩
  | 58 => ⟨S2048x32x28x28, .f32⟩
  | 59 => ⟨S2048x3x28x28, .f32⟩
  | 60 => ⟨S32x3x1x1, .f32⟩
  | 61 => ⟨S32x3, .f32⟩
  | 62 => ⟨S32x2048x28x28, .f32⟩
  | 63 => ⟨S2048x32x28x28, .f32⟩
  | 64 => ⟨S2048x32x28x28, .f32⟩
  | 65 => ⟨S2048x3x28x28, .f32⟩
  | 66 => ⟨S32x3x1x1, .f32⟩
  | 67 => ⟨S32x3, .f32⟩
  | 68 => ⟨S32x2048x28x28, .f32⟩
  | 69 => ⟨S2048x32x28x28, .f32⟩
  | 70 => ⟨S2048x32x28x28, .f32⟩
  | 71 => ⟨S2048x3x28x28, .f32⟩
  | 72 => ⟨S32x3x1x1, .f32⟩
  | 73 => ⟨S32x3, .f32⟩
  | 74 => ⟨S32x2048x28x28, .f32⟩
  | 75 => ⟨S2048x32x28x28, .f32⟩
  | 76 => ⟨S2048x32x28x28, .f32⟩
  | 77 => ⟨S1x32x1x1, .f32⟩
  | 78 => ⟨S2048x32x28x28, .f32⟩
  | 79 => ⟨S2048x32x28x28, .f32⟩
  | 80 => ⟨S_, .f32⟩
  | 81 => ⟨S2048x32x28x28, .f32⟩
  | 82 => ⟨S2048x32x28x28, .f32⟩
  | 83 => ⟨S2048x32x14x14, .f32⟩
  | 84 => ⟨S2048x32x14x14, .f32⟩
  | 85 => ⟨S2048x32x14x14, .f32⟩
  | 86 => ⟨S2048x32x14x14, .f32⟩
  | 87 => ⟨S2048x32x14x14, .f32⟩
  | 88 => ⟨S2048x32x14x14, .f32⟩
  | 89 => ⟨S2048x32x14x14, .f32⟩
  | 90 => ⟨S2048x32x12x12, .f32⟩
  | 91 => ⟨S64x32x1x1, .f32⟩
  | 92 => ⟨S64x32, .f32⟩
  | 93 => ⟨S64x2048x12x12, .f32⟩
  | 94 => ⟨S2048x64x12x12, .f32⟩
  | 95 => ⟨S_, .f32⟩
  | 96 => ⟨S2048x64x12x12, .f32⟩
  | 97 => ⟨S2048x64x12x12, .f32⟩
  | 98 => ⟨S2048x32x12x12, .f32⟩
  | 99 => ⟨S64x32x1x1, .f32⟩
  | 100 => ⟨S64x32, .f32⟩
  | 101 => ⟨S64x2048x12x12, .f32⟩
  | 102 => ⟨S2048x64x12x12, .f32⟩
  | 103 => ⟨S2048x64x12x12, .f32⟩
  | 104 => ⟨S2048x32x12x12, .f32⟩
  | 105 => ⟨S64x32x1x1, .f32⟩
  | 106 => ⟨S64x32, .f32⟩
  | 107 => ⟨S64x2048x12x12, .f32⟩
  | 108 => ⟨S2048x64x12x12, .f32⟩
  | 109 => ⟨S2048x64x12x12, .f32⟩
  | 110 => ⟨S2048x32x12x12, .f32⟩
  | 111 => ⟨S64x32x1x1, .f32⟩
  | 112 => ⟨S64x32, .f32⟩
  | 113 => ⟨S64x2048x12x12, .f32⟩
  | 114 => ⟨S2048x64x12x12, .f32⟩
  | 115 => ⟨S2048x64x12x12, .f32⟩
  | 116 => ⟨S2048x32x12x12, .f32⟩
  | 117 => ⟨S64x32x1x1, .f32⟩
  | 118 => ⟨S64x32, .f32⟩
  | 119 => ⟨S64x2048x12x12, .f32⟩
  | 120 => ⟨S2048x64x12x12, .f32⟩
  | 121 => ⟨S2048x64x12x12, .f32⟩
  | 122 => ⟨S2048x32x12x12, .f32⟩
  | 123 => ⟨S64x32x1x1, .f32⟩
  | 124 => ⟨S64x32, .f32⟩
  | 125 => ⟨S64x2048x12x12, .f32⟩
  | 126 => ⟨S2048x64x12x12, .f32⟩
  | 127 => ⟨S2048x64x12x12, .f32⟩
  | _ => ⟨S2048x3x28x28, .f32⟩

abbrev hbmTy0_1 (i : Nat) : BufTy := match i % 128 with
  | 0 => ⟨S2048x32x12x12, .f32⟩
  | 1 => ⟨S64x32x1x1, .f32⟩
  | 2 => ⟨S64x32, .f32⟩
  | 3 => ⟨S64x2048x12x12, .f32⟩
  | 4 => ⟨S2048x64x12x12, .f32⟩
  | 5 => ⟨S2048x64x12x12, .f32⟩
  | 6 => ⟨S2048x32x12x12, .f32⟩
  | 7 => ⟨S64x32x1x1, .f32⟩
  | 8 => ⟨S64x32, .f32⟩
  | 9 => ⟨S64x2048x12x12, .f32⟩
  | 10 => ⟨S2048x64x12x12, .f32⟩
  | 11 => ⟨S2048x64x12x12, .f32⟩
  | 12 => ⟨S2048x32x12x12, .f32⟩
  | 13 => ⟨S64x32x1x1, .f32⟩
  | 14 => ⟨S64x32, .f32⟩
  | 15 => ⟨S64x2048x12x12, .f32⟩
  | 16 => ⟨S2048x64x12x12, .f32⟩
  | 17 => ⟨S2048x64x12x12, .f32⟩
  | 18 => ⟨S1x64x1x1, .f32⟩
  | 19 => ⟨S2048x64x12x12, .f32⟩
  | 20 => ⟨S2048x64x12x12, .f32⟩
  | 21 => ⟨S_, .f32⟩
  | 22 => ⟨S2048x64x12x12, .f32⟩
  | 23 => ⟨S2048x64x12x12, .f32⟩
  | 24 => ⟨S2048x64x6x6, .f32⟩
  | 25 => ⟨S2048x64x6x6, .f32⟩
  | 26 => ⟨S2048x64x6x6, .f32⟩
  | 27 => ⟨S2048x64x6x6, .f32⟩
  | 28 => ⟨S2048x64x6x6, .f32⟩
  | 29 => ⟨S2048x64x6x6, .f32⟩
  | 30 => ⟨S2048x64x6x6, .f32⟩
  | 31 => ⟨S2048x2304, .f32⟩
  | 32 => ⟨S2048x8, .f32⟩
  | 33 => ⟨S2048x8, .f32⟩
  | 34 => ⟨S_, .f32⟩
  | 35 => ⟨S2048, .f32⟩
  | 36 => ⟨S2048x1, .f32⟩
  | 37 => ⟨S2048x1, .f32⟩
  | 38 => ⟨S_, .f32⟩
  | 39 => ⟨S2048x1, .f32⟩
  | 40 => ⟨S2048x1, .f32⟩
  | 41 => ⟨S2048x8, .f32⟩
  | 42 => ⟨S2048x8, .f32⟩
  | 43 => ⟨S2048x256, .i32⟩
  | 44 => ⟨S_, .i32⟩
  | 45 => ⟨S2048x256, .i32⟩
  | 46 => ⟨S2048x256, .i1⟩
  | 47 => ⟨S_, .f32⟩
  | 48 => ⟨S_, .f32⟩
  | 49 => ⟨S2048x256, .f32⟩
  | 50 => ⟨S2048x256, .f32⟩
  | 51 => ⟨S2048x256, .f32⟩
  | 52 => ⟨S1x8, .f32⟩
  | 53 => ⟨S8, .f32⟩
  | 54 => ⟨S1x8, .f32⟩
  | 55 => ⟨S2048x8, .f32⟩
  | 56 => ⟨S2048x8, .f32⟩
  | 57 => ⟨S_, .f32⟩
  | 58 => ⟨S2048x8, .f32⟩
  | 59 => ⟨S2048x8, .f32⟩
  | 60 => ⟨S2048x8, .f32⟩
  | 61 => ⟨S_, .f32⟩
  | 62 => ⟨S2048x8, .f32⟩
  | 63 => ⟨S2048x8, .f32⟩
  | 64 => ⟨S2048x8, .f32⟩
  | 65 => ⟨S2048x8, .f32⟩
  | 66 => ⟨S2048x8x1, .f32⟩
  | 67 => ⟨S2048x8x1, .f32⟩
  | 68 => ⟨S2048x8x2, .f32⟩
  | 69 => ⟨S2048x8x1, .f32⟩
  | 70 => ⟨S2048x8x1, .f32⟩
  | 71 => ⟨S2048x8x2, .f32⟩
  | 72 => ⟨S2048x8x1x2, .f32⟩
  | 73 => ⟨S2048x8x1x2, .f32⟩
  | 74 => ⟨S2048x8x2x2, .f32⟩
  | 75 => ⟨S2048x1x2x2, .f32⟩
  | 76 => ⟨S2048x2x2, .f32⟩
  | 77 => ⟨S2048x1x2x128, .f32⟩
  | 78 => ⟨S2048x1x128x2, .f32⟩
  | 79 => ⟨S2048x1x2x128, .f32⟩
  | 80 => ⟨S2048x256, .f32⟩
  | 81 => ⟨S2048x1x2x2, .f32⟩
  | 82 => ⟨S2048x2x2, .f32⟩
  | 83 => ⟨S2048x2x2x64, .f32⟩
  | 84 => ⟨S2048x2x64x2, .f32⟩
  | 85 => ⟨S2048x2x2x64, .f32⟩
  | 86 => ⟨S2048x256, .f32⟩
  | 87 => ⟨S2048x1x2x2, .f32⟩
  | 88 => ⟨S2048x2x2, .f32⟩
  | 89 => ⟨S2048x4x2x32, .f32⟩
  | 90 => ⟨S2048x4x32x2, .f32⟩
  | 91 => ⟨S2048x4x2x32, .f32⟩
  | 92 => ⟨S2048x256, .f32⟩
  | 93 => ⟨S2048x1x2x2, .f32⟩
  | 94 => ⟨S2048x2x2, .f32⟩
  | 95 => ⟨S2048x8x2x16, .f32⟩
  | 96 => ⟨S2048x8x16x2, .f32⟩
  | 97 => ⟨S2048x8x2x16, .f32⟩
  | 98 => ⟨S2048x256, .f32⟩
  | 99 => ⟨S2048x1x2x2, .f32⟩
  | 100 => ⟨S2048x2x2, .f32⟩
  | 101 => ⟨S2048x16x2x8, .f32⟩
  | 102 => ⟨S2048x16x8x2, .f32⟩
  | 103 => ⟨S2048x16x2x8, .f32⟩
  | 104 => ⟨S2048x256, .f32⟩
  | 105 => ⟨S2048x1x2x2, .f32⟩
  | 106 => ⟨S2048x2x2, .f32⟩
  | 107 => ⟨S2048x32x2x4, .f32⟩
  | 108 => ⟨S2048x32x4x2, .f32⟩
  | 109 => ⟨S2048x32x2x4, .f32⟩
  | 110 => ⟨S2048x256, .f32⟩
  | 111 => ⟨S2048x1x2x2, .f32⟩
  | 112 => ⟨S2048x2x2, .f32⟩
  | 113 => ⟨S2048x64x2x2, .f32⟩
  | 114 => ⟨S2048x64x2x2, .f32⟩
  | 115 => ⟨S2048x64x2x2, .f32⟩
  | 116 => ⟨S2048x256, .f32⟩
  | 117 => ⟨S2048x1x2x2, .f32⟩
  | 118 => ⟨S2048x2x2, .f32⟩
  | 119 => ⟨S2048x128x2x1, .f32⟩
  | 120 => ⟨S2048x128x1x2, .f32⟩
  | 121 => ⟨S2048x128x2x1, .f32⟩
  | 122 => ⟨S2048x256, .f32⟩
  | 123 => ⟨S2048x1x2x2x64, .f32⟩
  | 124 => ⟨S2048x1x1x2x64, .f32⟩
  | 125 => ⟨S2048x1x1x2x64, .f32⟩
  | 126 => ⟨S2048x1x1x2x64, .f32⟩
  | 127 => ⟨S2048x1x2x2x64, .f32⟩
  | _ => ⟨S2048x3x28x28, .f32⟩

abbrev hbmTy0_2 (i : Nat) : BufTy := match i % 128 with
  | 0 => ⟨S2048x256, .f32⟩
  | 1 => ⟨S2048x2x2x2x32, .f32⟩
  | 2 => ⟨S2048x2x1x2x32, .f32⟩
  | 3 => ⟨S2048x2x1x2x32, .f32⟩
  | 4 => ⟨S2048x2x1x2x32, .f32⟩
  | 5 => ⟨S2048x2x2x2x32, .f32⟩
  | 6 => ⟨S2048x256, .f32⟩
  | 7 => ⟨S2048x4x2x2x16, .f32⟩
  | 8 => ⟨S2048x4x1x2x16, .f32⟩
  | 9 => ⟨S2048x4x1x2x16, .f32⟩
  | 10 => ⟨S2048x4x1x2x16, .f32⟩
  | 11 => ⟨S2048x4x2x2x16, .f32⟩
  | 12 => ⟨S2048x256, .f32⟩
  | 13 => ⟨S2048x8x2x2x8, .f32⟩
  | 14 => ⟨S2048x8x1x2x8, .f32⟩
  | 15 => ⟨S2048x8x1x2x8, .f32⟩
  | 16 => ⟨S2048x8x1x2x8, .f32⟩
  | 17 => ⟨S2048x8x2x2x8, .f32⟩
  | 18 => ⟨S2048x256, .f32⟩
  | 19 => ⟨S2048x16x2x2x4, .f32⟩
  | 20 => ⟨S2048x16x1x2x4, .f32⟩
  | 21 => ⟨S2048x16x1x2x4, .f32⟩
  | 22 => ⟨S2048x16x1x2x4, .f32⟩
  | 23 => ⟨S2048x16x2x2x4, .f32⟩
  | 24 => ⟨S2048x256, .f32⟩
  | 25 => ⟨S2048x32x2x2x2, .f32⟩
  | 26 => ⟨S2048x32x1x2x2, .f32⟩
  | 27 => ⟨S2048x32x1x2x2, .f32⟩
  | 28 => ⟨S2048x32x1x2x2, .f32⟩
  | 29 => ⟨S2048x32x2x2x2, .f32⟩
  | 30 => ⟨S2048x256, .f32⟩
  | 31 => ⟨S2048x64x2x2x1, .f32⟩
  | 32 => ⟨S2048x64x1x2x1, .f32⟩
  | 33 => ⟨S2048x64x1x2x1, .f32⟩
  | 34 => ⟨S2048x64x1x2x1, .f32⟩
  | 35 => ⟨S2048x64x2x2x1, .f32⟩
  | 36 => ⟨S2048x256, .f32⟩
  | 37 => ⟨S1x8, .f32⟩
  | 38 => ⟨S8, .f32⟩
  | 39 => ⟨S1x8, .f32⟩
  | 40 => ⟨S2048x8, .f32⟩
  | 41 => ⟨S2048x8, .f32⟩
  | 42 => ⟨S_, .f32⟩
  | 43 => ⟨S2048x8, .f32⟩
  | 44 => ⟨S2048x8, .f32⟩
  | 45 => ⟨S2048x8, .f32⟩
  | 46 => ⟨S_, .f32⟩
  | 47 => ⟨S2048x8, .f32⟩
  | 48 => ⟨S2048x8, .f32⟩
  | 49 => ⟨S2048x8, .f32⟩
  | 50 => ⟨S2048x8, .f32⟩
  | 51 => ⟨S2048x8x1, .f32⟩
  | 52 => ⟨S2048x8x1, .f32⟩
  | 53 => ⟨S2048x8x2, .f32⟩
  | 54 => ⟨S2048x8x1, .f32⟩
  | 55 => ⟨S2048x8x1, .f32⟩
  | 56 => ⟨S2048x8x2, .f32⟩
  | 57 => ⟨S2048x8x1x2, .f32⟩
  | 58 => ⟨S2048x8x1x2, .f32⟩
  | 59 => ⟨S2048x8x2x2, .f32⟩
  | 60 => ⟨S2048x1x2x2, .f32⟩
  | 61 => ⟨S2048x2x2, .f32⟩
  | 62 => ⟨S2048x1x2x128, .f32⟩
  | 63 => ⟨S2048x1x128x2, .f32⟩
  | 64 => ⟨S2048x1x2x128, .f32⟩
  | 65 => ⟨S2048x256, .f32⟩
  | 66 => ⟨S2048x1x2x2, .f32⟩
  | 67 => ⟨S2048x2x2, .f32⟩
  | 68 => ⟨S2048x2x2x64, .f32⟩
  | 69 => ⟨S2048x2x64x2, .f32⟩
  | 70 => ⟨S2048x2x2x64, .f32⟩
  | 71 => ⟨S2048x256, .f32⟩
  | 72 => ⟨S2048x1x2x2, .f32⟩
  | 73 => ⟨S2048x2x2, .f32⟩
  | 74 => ⟨S2048x4x2x32, .f32⟩
  | 75 => ⟨S2048x4x32x2, .f32⟩
  | 76 => ⟨S2048x4x2x32, .f32⟩
  | 77 => ⟨S2048x256, .f32⟩
  | 78 => ⟨S2048x1x2x2, .f32⟩
  | 79 => ⟨S2048x2x2, .f32⟩
  | 80 => ⟨S2048x8x2x16, .f32⟩
  | 81 => ⟨S2048x8x16x2, .f32⟩
  | 82 => ⟨S2048x8x2x16, .f32⟩
  | 83 => ⟨S2048x256, .f32⟩
  | 84 => ⟨S2048x1x2x2, .f32⟩
  | 85 => ⟨S2048x2x2, .f32⟩
  | 86 => ⟨S2048x16x2x8, .f32⟩
  | 87 => ⟨S2048x16x8x2, .f32⟩
  | 88 => ⟨S2048x16x2x8, .f32⟩
  | 89 => ⟨S2048x256, .f32⟩
  | 90 => ⟨S2048x1x2x2, .f32⟩
  | 91 => ⟨S2048x2x2, .f32⟩
  | 92 => ⟨S2048x32x2x4, .f32⟩
  | 93 => ⟨S2048x32x4x2, .f32⟩
  | 94 => ⟨S2048x32x2x4, .f32⟩
  | 95 => ⟨S2048x256, .f32⟩
  | 96 => ⟨S2048x1x2x2, .f32⟩
  | 97 => ⟨S2048x2x2, .f32⟩
  | 98 => ⟨S2048x64x2x2, .f32⟩
  | 99 => ⟨S2048x64x2x2, .f32⟩
  | 100 => ⟨S2048x64x2x2, .f32⟩
  | 101 => ⟨S2048x256, .f32⟩
  | 102 => ⟨S2048x1x2x2, .f32⟩
  | 103 => ⟨S2048x2x2, .f32⟩
  | 104 => ⟨S2048x128x2x1, .f32⟩
  | 105 => ⟨S2048x128x1x2, .f32⟩
  | 106 => ⟨S2048x128x2x1, .f32⟩
  | 107 => ⟨S2048x256, .f32⟩
  | 108 => ⟨S2048x1x2x2x64, .f32⟩
  | 109 => ⟨S2048x1x1x2x64, .f32⟩
  | 110 => ⟨S2048x1x1x2x64, .f32⟩
  | 111 => ⟨S2048x1x1x2x64, .f32⟩
  | 112 => ⟨S2048x1x2x2x64, .f32⟩
  | 113 => ⟨S2048x256, .f32⟩
  | 114 => ⟨S2048x2x2x2x32, .f32⟩
  | 115 => ⟨S2048x2x1x2x32, .f32⟩
  | 116 => ⟨S2048x2x1x2x32, .f32⟩
  | 117 => ⟨S2048x2x1x2x32, .f32⟩
  | 118 => ⟨S2048x2x2x2x32, .f32⟩
  | 119 => ⟨S2048x256, .f32⟩
  | 120 => ⟨S2048x4x2x2x16, .f32⟩
  | 121 => ⟨S2048x4x1x2x16, .f32⟩
  | 122 => ⟨S2048x4x1x2x16, .f32⟩
  | 123 => ⟨S2048x4x1x2x16, .f32⟩
  | 124 => ⟨S2048x4x2x2x16, .f32⟩
  | 125 => ⟨S2048x256, .f32⟩
  | 126 => ⟨S2048x8x2x2x8, .f32⟩
  | 127 => ⟨S2048x8x1x2x8, .f32⟩
  | _ => ⟨S2048x3x28x28, .f32⟩

abbrev hbmTy0_3 (i : Nat) : BufTy := match i % 128 with
  | 0 => ⟨S2048x8x1x2x8, .f32⟩
  | 1 => ⟨S2048x8x1x2x8, .f32⟩
  | 2 => ⟨S2048x8x2x2x8, .f32⟩
  | 3 => ⟨S2048x256, .f32⟩
  | 4 => ⟨S2048x16x2x2x4, .f32⟩
  | 5 => ⟨S2048x16x1x2x4, .f32⟩
  | 6 => ⟨S2048x16x1x2x4, .f32⟩
  | 7 => ⟨S2048x16x1x2x4, .f32⟩
  | 8 => ⟨S2048x16x2x2x4, .f32⟩
  | 9 => ⟨S2048x256, .f32⟩
  | 10 => ⟨S2048x32x2x2x2, .f32⟩
  | 11 => ⟨S2048x32x1x2x2, .f32⟩
  | 12 => ⟨S2048x32x1x2x2, .f32⟩
  | 13 => ⟨S2048x32x1x2x2, .f32⟩
  | 14 => ⟨S2048x32x2x2x2, .f32⟩
  | 15 => ⟨S2048x256, .f32⟩
  | 16 => ⟨S2048x64x2x2x1, .f32⟩
  | 17 => ⟨S2048x64x1x2x1, .f32⟩
  | 18 => ⟨S2048x64x1x2x1, .f32⟩
  | 19 => ⟨S2048x64x1x2x1, .f32⟩
  | 20 => ⟨S2048x64x2x2x1, .f32⟩
  | 21 => ⟨S2048x256, .f32⟩
  | 22 => ⟨S1x8, .f32⟩
  | 23 => ⟨S8, .f32⟩
  | 24 => ⟨S1x8, .f32⟩
  | 25 => ⟨S2048x8, .f32⟩
  | 26 => ⟨S2048x8, .f32⟩
  | 27 => ⟨S_, .f32⟩
  | 28 => ⟨S2048x8, .f32⟩
  | 29 => ⟨S2048x8, .f32⟩
  | 30 => ⟨S2048x8, .f32⟩
  | 31 => ⟨S_, .f32⟩
  | 32 => ⟨S2048x8, .f32⟩
  | 33 => ⟨S2048x8, .f32⟩
  | 34 => ⟨S2048x8, .f32⟩
  | 35 => ⟨S2048x8, .f32⟩
  | 36 => ⟨S2048x8x1, .f32⟩
  | 37 => ⟨S2048x8x1, .f32⟩
  | 38 => ⟨S2048x8x2, .f32⟩
  | 39 => ⟨S2048x8x1, .f32⟩
  | 40 => ⟨S2048x8x1, .f32⟩
  | 41 => ⟨S2048x8x2, .f32⟩
  | 42 => ⟨S2048x8x1x2, .f32⟩
  | 43 => ⟨S2048x8x1x2, .f32⟩
  | 44 => ⟨S2048x8x2x2, .f32⟩
  | 45 => ⟨S2048x1x2x2, .f32⟩
  | 46 => ⟨S2048x2x2, .f32⟩
  | 47 => ⟨S2048x1x2x128, .f32⟩
  | 48 => ⟨S2048x1x128x2, .f32⟩
  | 49 => ⟨S2048x1x2x128, .f32⟩
  | 50 => ⟨S2048x256, .f32⟩
  | 51 => ⟨S2048x1x2x2, .f32⟩
  | 52 => ⟨S2048x2x2, .f32⟩
  | 53 => ⟨S2048x2x2x64, .f32⟩
  | 54 => ⟨S2048x2x64x2, .f32⟩
  | 55 => ⟨S2048x2x2x64, .f32⟩
  | 56 => ⟨S2048x256, .f32⟩
  | 57 => ⟨S2048x1x2x2, .f32⟩
  | 58 => ⟨S2048x2x2, .f32⟩
  | 59 => ⟨S2048x4x2x32, .f32⟩
  | 60 => ⟨S2048x4x32x2, .f32⟩
  | 61 => ⟨S2048x4x2x32, .f32⟩
  | 62 => ⟨S2048x256, .f32⟩
  | 63 => ⟨S2048x1x2x2, .f32⟩
  | 64 => ⟨S2048x2x2, .f32⟩
  | 65 => ⟨S2048x8x2x16, .f32⟩
  | 66 => ⟨S2048x8x16x2, .f32⟩
  | 67 => ⟨S2048x8x2x16, .f32⟩
  | 68 => ⟨S2048x256, .f32⟩
  | 69 => ⟨S2048x1x2x2, .f32⟩
  | 70 => ⟨S2048x2x2, .f32⟩
  | 71 => ⟨S2048x16x2x8, .f32⟩
  | 72 => ⟨S2048x16x8x2, .f32⟩
  | 73 => ⟨S2048x16x2x8, .f32⟩
  | 74 => ⟨S2048x256, .f32⟩
  | 75 => ⟨S2048x1x2x2, .f32⟩
  | 76 => ⟨S2048x2x2, .f32⟩
  | 77 => ⟨S2048x32x2x4, .f32⟩
  | 78 => ⟨S2048x32x4x2, .f32⟩
  | 79 => ⟨S2048x32x2x4, .f32⟩
  | 80 => ⟨S2048x256, .f32⟩
  | 81 => ⟨S2048x1x2x2, .f32⟩
  | 82 => ⟨S2048x2x2, .f32⟩
  | 83 => ⟨S2048x64x2x2, .f32⟩
  | 84 => ⟨S2048x64x2x2, .f32⟩
  | 85 => ⟨S2048x64x2x2, .f32⟩
  | 86 => ⟨S2048x256, .f32⟩
  | 87 => ⟨S2048x1x2x2, .f32⟩
  | 88 => ⟨S2048x2x2, .f32⟩
  | 89 => ⟨S2048x128x2x1, .f32⟩
  | 90 => ⟨S2048x128x1x2, .f32⟩
  | 91 => ⟨S2048x128x2x1, .f32⟩
  | 92 => ⟨S2048x256, .f32⟩
  | 93 => ⟨S2048x1x2x2x64, .f32⟩
  | 94 => ⟨S2048x1x1x2x64, .f32⟩
  | 95 => ⟨S2048x1x1x2x64, .f32⟩
  | 96 => ⟨S2048x1x1x2x64, .f32⟩
  | 97 => ⟨S2048x1x2x2x64, .f32⟩
  | 98 => ⟨S2048x256, .f32⟩
  | 99 => ⟨S2048x2x2x2x32, .f32⟩
  | 100 => ⟨S2048x2x1x2x32, .f32⟩
  | 101 => ⟨S2048x2x1x2x32, .f32⟩
  | 102 => ⟨S2048x2x1x2x32, .f32⟩
  | 103 => ⟨S2048x2x2x2x32, .f32⟩
  | 104 => ⟨S2048x256, .f32⟩
  | 105 => ⟨S2048x4x2x2x16, .f32⟩
  | 106 => ⟨S2048x4x1x2x16, .f32⟩
  | 107 => ⟨S2048x4x1x2x16, .f32⟩
  | 108 => ⟨S2048x4x1x2x16, .f32⟩
  | 109 => ⟨S2048x4x2x2x16, .f32⟩
  | 110 => ⟨S2048x256, .f32⟩
  | 111 => ⟨S2048x8x2x2x8, .f32⟩
  | 112 => ⟨S2048x8x1x2x8, .f32⟩
  | 113 => ⟨S2048x8x1x2x8, .f32⟩
  | 114 => ⟨S2048x8x1x2x8, .f32⟩
  | 115 => ⟨S2048x8x2x2x8, .f32⟩
  | 116 => ⟨S2048x256, .f32⟩
  | 117 => ⟨S2048x16x2x2x4, .f32⟩
  | 118 => ⟨S2048x16x1x2x4, .f32⟩
  | 119 => ⟨S2048x16x1x2x4, .f32⟩
  | 120 => ⟨S2048x16x1x2x4, .f32⟩
  | 121 => ⟨S2048x16x2x2x4, .f32⟩
  | 122 => ⟨S2048x256, .f32⟩
  | 123 => ⟨S2048x32x2x2x2, .f32⟩
  | 124 => ⟨S2048x32x1x2x2, .f32⟩
  | 125 => ⟨S2048x32x1x2x2, .f32⟩
  | 126 => ⟨S2048x32x1x2x2, .f32⟩
  | 127 => ⟨S2048x32x2x2x2, .f32⟩
  | _ => ⟨S2048x3x28x28, .f32⟩

abbrev hbmTy0_4 (i : Nat) : BufTy := match i % 128 with
  | 0 => ⟨S2048x256, .f32⟩
  | 1 => ⟨S2048x64x2x2x1, .f32⟩
  | 2 => ⟨S2048x64x1x2x1, .f32⟩
  | 3 => ⟨S2048x64x1x2x1, .f32⟩
  | 4 => ⟨S2048x64x1x2x1, .f32⟩
  | 5 => ⟨S2048x64x2x2x1, .f32⟩
  | 6 => ⟨S2048x256, .f32⟩
  | 7 => ⟨S2048x256, .f32⟩
  | 8 => ⟨S2048x1x2x128, .f32⟩
  | 9 => ⟨S_, .f32⟩
  | 10 => ⟨S2048x2, .f32⟩
  | 11 => ⟨S2048x1, .f32⟩
  | 12 => ⟨S2048, .f32⟩
  | 13 => ⟨S2048x1, .f32⟩
  | 14 => ⟨S2048, .f32⟩
  | 15 => ⟨S2048, .f32⟩
  | 16 => ⟨S2048x2x2x64, .f32⟩
  | 17 => ⟨S_, .f32⟩
  | 18 => ⟨S2048x2, .f32⟩
  | 19 => ⟨S2048x1, .f32⟩
  | 20 => ⟨S2048, .f32⟩
  | 21 => ⟨S2048x1, .f32⟩
  | 22 => ⟨S2048, .f32⟩
  | 23 => ⟨S2048, .f32⟩
  | 24 => ⟨S2048x4x2x32, .f32⟩
  | 25 => ⟨S_, .f32⟩
  | 26 => ⟨S2048x2, .f32⟩
  | 27 => ⟨S2048x1, .f32⟩
  | 28 => ⟨S2048, .f32⟩
  | 29 => ⟨S2048x1, .f32⟩
  | 30 => ⟨S2048, .f32⟩
  | 31 => ⟨S2048, .f32⟩
  | 32 => ⟨S2048x8x2x16, .f32⟩
  | 33 => ⟨S_, .f32⟩
  | 34 => ⟨S2048x2, .f32⟩
  | 35 => ⟨S2048x1, .f32⟩
  | 36 => ⟨S2048, .f32⟩
  | 37 => ⟨S2048x1, .f32⟩
  | 38 => ⟨S2048, .f32⟩
  | 39 => ⟨S2048, .f32⟩
  | 40 => ⟨S2048x16x2x8, .f32⟩
  | 41 => ⟨S_, .f32⟩
  | 42 => ⟨S2048x2, .f32⟩
  | 43 => ⟨S2048x1, .f32⟩
  | 44 => ⟨S2048, .f32⟩
  | 45 => ⟨S2048x1, .f32⟩
  | 46 => ⟨S2048, .f32⟩
  | 47 => ⟨S2048, .f32⟩
  | 48 => ⟨S2048x32x2x4, .f32⟩
  | 49 => ⟨S_, .f32⟩
  | 50 => ⟨S2048x2, .f32⟩
  | 51 => ⟨S2048x1, .f32⟩
  | 52 => ⟨S2048, .f32⟩
  | 53 => ⟨S2048x1, .f32⟩
  | 54 => ⟨S2048, .f32⟩
  | 55 => ⟨S2048, .f32⟩
  | 56 => ⟨S2048x64x2x2, .f32⟩
  | 57 => ⟨S_, .f32⟩
  | 58 => ⟨S2048x2, .f32⟩
  | 59 => ⟨S2048x1, .f32⟩
  | 60 => ⟨S2048, .f32⟩
  | 61 => ⟨S2048x1, .f32⟩
  | 62 => ⟨S2048, .f32⟩
  | 63 => ⟨S2048, .f32⟩
  | 64 => ⟨S2048x128x2x1, .f32⟩
  | 65 => ⟨S_, .f32⟩
  | 66 => ⟨S2048x2, .f32⟩
  | 67 => ⟨S2048x1, .f32⟩
  | 68 => ⟨S2048, .f32⟩
  | 69 => ⟨S2048x1, .f32⟩
  | 70 => ⟨S2048, .f32⟩
  | 71 => ⟨S2048, .f32⟩
  | 72 => ⟨S2048x1, .f32⟩
  | 73 => ⟨S2048x1, .f32⟩
  | 74 => ⟨S2048x1, .f32⟩
  | 75 => ⟨S2048x1, .f32⟩
  | 76 => ⟨S2048x1, .f32⟩
  | 77 => ⟨S2048x1, .f32⟩
  | 78 => ⟨S2048x1, .f32⟩
  | 79 => ⟨S2048x1, .f32⟩
  | 80 => ⟨S2048x8, .f32⟩
  | 81 => ⟨S8x64, .f32⟩
  | 82 => ⟨S2048x64, .f32⟩
  | 83 => ⟨S1x64, .f32⟩
  | 84 => ⟨S2048x64, .f32⟩
  | 85 => ⟨S2048x64, .f32⟩
  | 86 => ⟨S_, .f32⟩
  | 87 => ⟨S2048x64, .f32⟩
  | 88 => ⟨S_, .f32⟩
  | 89 => ⟨S2048x64, .f32⟩
  | 90 => ⟨S2048x64, .f32⟩
  | 91 => ⟨S_, .f32⟩
  | 92 => ⟨S2048x64, .f32⟩
  | 93 => ⟨S2048x64, .f32⟩
  | 94 => ⟨S2048x64, .f32⟩
  | 95 => ⟨S64x32, .f32⟩
  | 96 => ⟨S2048x32, .f32⟩
  | 97 => ⟨S1x32, .f32⟩
  | 98 => ⟨S2048x32, .f32⟩
  | 99 => ⟨S2048x32, .f32⟩
  | 100 => ⟨S2048x32, .f32⟩
  | 101 => ⟨S64x32, .f32⟩
  | 102 => ⟨S2048x32, .f32⟩
  | 103 => ⟨S1x32, .f32⟩
  | 104 => ⟨S2048x32, .f32⟩
  | 105 => ⟨S2048x32, .f32⟩
  | 106 => ⟨S2048x32, .f32⟩
  | 107 => ⟨S2048x32, .f32⟩
  | 108 => ⟨S2304x512, .f32⟩
  | 109 => ⟨S2048x512, .f32⟩
  | 110 => ⟨S1x512, .f32⟩
  | 111 => ⟨S2048x512, .f32⟩
  | 112 => ⟨S2048x512, .f32⟩
  | 113 => ⟨S_, .f32⟩
  | 114 => ⟨S2048x512, .f32⟩
  | 115 => ⟨S2048x512, .f32⟩
  | 116 => ⟨S2048x544, .f32⟩
  | 117 => ⟨S544x512, .f32⟩
  | 118 => ⟨S2048x512, .f32⟩
  | 119 => ⟨S1x512, .f32⟩
  | 120 => ⟨S2048x512, .f32⟩
  | 121 => ⟨S2048x512, .f32⟩
  | 122 => ⟨S512x10, .f32⟩
  | 123 => ⟨S2048x10, .f32⟩
  | 124 => ⟨S1x10, .f32⟩
  | 125 => ⟨S2048x10, .f32⟩
  | 126 => ⟨S2048x10, .f32⟩
  | _ => ⟨S2048x3x28x28, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x3x28x28, .f32⟩

abbrev bufTy : (tb : Table) → Fin (tcTables nBuf tb) → BufTy
  | .hbm, ⟨i, _⟩ => hbmTy i
  | _, _ => ⟨S2048x3x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_call0_v0 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call1_cst : Ref sig .tc := ⟨.hbm, 80, rfl⟩
abbrev main_call1_v0 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_0 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_call2_cst : Ref sig .tc := ⟨.hbm, 149, rfl⟩
abbrev main_call2_v0 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_call3_v0 : Ref sig .tc := ⟨.hbm, 161, rfl⟩
abbrev main_call3_cst : Ref sig .tc := ⟨.hbm, 162, rfl⟩
abbrev main_call3_v1 : Ref sig .tc := ⟨.hbm, 163, rfl⟩
abbrev main_call3_v2 : Ref sig .tc := ⟨.hbm, 164, rfl⟩
abbrev main_v135 : Ref sig .tc := ⟨.hbm, 165, rfl⟩
abbrev main_cst_1 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_c_2 : Ref sig .tc := ⟨.hbm, 172, rfl⟩
abbrev main_v141 : Ref sig .tc := ⟨.hbm, 173, rfl⟩
abbrev main_v142 : Ref sig .tc := ⟨.hbm, 174, rfl⟩
abbrev main_cst_3 : Ref sig .tc := ⟨.hbm, 175, rfl⟩
abbrev main_cst_4 : Ref sig .tc := ⟨.hbm, 176, rfl⟩
abbrev main_call4_v0 : Ref sig .tc := ⟨.hbm, 177, rfl⟩
abbrev main_call4_v1 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_cst_5 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_cst_6 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_cst_7 : Ref sig .tc := ⟨.hbm, 298, rfl⟩
abbrev main_v260 : Ref sig .tc := ⟨.hbm, 299, rfl⟩
abbrev main_v261 : Ref sig .tc := ⟨.hbm, 300, rfl⟩
abbrev main_v262 : Ref sig .tc := ⟨.hbm, 301, rfl⟩
abbrev main_cst_8 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_v291 : Ref sig .tc := ⟨.hbm, 331, rfl⟩
abbrev main_v292 : Ref sig .tc := ⟨.hbm, 332, rfl⟩
abbrev main_v293 : Ref sig .tc := ⟨.hbm, 333, rfl⟩
abbrev main_v294 : Ref sig .tc := ⟨.hbm, 334, rfl⟩
abbrev main_v295 : Ref sig .tc := ⟨.hbm, 335, rfl⟩
abbrev main_v296 : Ref sig .tc := ⟨.hbm, 336, rfl⟩
abbrev main_v297 : Ref sig .tc := ⟨.hbm, 337, rfl⟩
abbrev main_v298 : Ref sig .tc := ⟨.hbm, 338, rfl⟩
abbrev main_v299 : Ref sig .tc := ⟨.hbm, 339, rfl⟩
abbrev main_v300 : Ref sig .tc := ⟨.hbm, 340, rfl⟩
abbrev main_v301 : Ref sig .tc := ⟨.hbm, 341, rfl⟩
abbrev main_v302 : Ref sig .tc := ⟨.hbm, 342, rfl⟩
abbrev main_v303 : Ref sig .tc := ⟨.hbm, 343, rfl⟩
abbrev main_v304 : Ref sig .tc := ⟨.hbm, 344, rfl⟩
abbrev main_v305 : Ref sig .tc := ⟨.hbm, 345, rfl⟩
abbrev main_v306 : Ref sig .tc := ⟨.hbm, 346, rfl⟩
abbrev main_v307 : Ref sig .tc := ⟨.hbm, 347, rfl⟩
abbrev main_v308 : Ref sig .tc := ⟨.hbm, 348, rfl⟩
abbrev main_v309 : Ref sig .tc := ⟨.hbm, 349, rfl⟩
abbrev main_v310 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_v320 : Ref sig .tc := ⟨.hbm, 360, rfl⟩
abbrev main_v321 : Ref sig .tc := ⟨.hbm, 361, rfl⟩
abbrev main_v322 : Ref sig .tc := ⟨.hbm, 362, rfl⟩
abbrev main_v323 : Ref sig .tc := ⟨.hbm, 363, rfl⟩
abbrev main_v324 : Ref sig .tc := ⟨.hbm, 364, rfl⟩
abbrev main_v325 : Ref sig .tc := ⟨.hbm, 365, rfl⟩
abbrev main_v326 : Ref sig .tc := ⟨.hbm, 366, rfl⟩
abbrev main_v327 : Ref sig .tc := ⟨.hbm, 367, rfl⟩
abbrev main_v328 : Ref sig .tc := ⟨.hbm, 368, rfl⟩
abbrev main_v329 : Ref sig .tc := ⟨.hbm, 369, rfl⟩
abbrev main_v330 : Ref sig .tc := ⟨.hbm, 370, rfl⟩
abbrev main_v331 : Ref sig .tc := ⟨.hbm, 371, rfl⟩
abbrev main_v332 : Ref sig .tc := ⟨.hbm, 372, rfl⟩
abbrev main_v333 : Ref sig .tc := ⟨.hbm, 373, rfl⟩
abbrev main_v334 : Ref sig .tc := ⟨.hbm, 374, rfl⟩
abbrev main_v335 : Ref sig .tc := ⟨.hbm, 375, rfl⟩
abbrev main_v336 : Ref sig .tc := ⟨.hbm, 376, rfl⟩
abbrev main_v337 : Ref sig .tc := ⟨.hbm, 377, rfl⟩
abbrev main_v338 : Ref sig .tc := ⟨.hbm, 378, rfl⟩
abbrev main_v339 : Ref sig .tc := ⟨.hbm, 379, rfl⟩
abbrev main_v340 : Ref sig .tc := ⟨.hbm, 380, rfl⟩
abbrev main_v341 : Ref sig .tc := ⟨.hbm, 381, rfl⟩
abbrev main_v342 : Ref sig .tc := ⟨.hbm, 382, rfl⟩
abbrev main_v343 : Ref sig .tc := ⟨.hbm, 383, rfl⟩
abbrev main_v344 : Ref sig .tc := ⟨.hbm, 384, rfl⟩
abbrev main_v345 : Ref sig .tc := ⟨.hbm, 385, rfl⟩
abbrev main_v346 : Ref sig .tc := ⟨.hbm, 386, rfl⟩
abbrev main_v347 : Ref sig .tc := ⟨.hbm, 387, rfl⟩
abbrev main_v348 : Ref sig .tc := ⟨.hbm, 388, rfl⟩
abbrev main_v349 : Ref sig .tc := ⟨.hbm, 389, rfl⟩
abbrev main_v350 : Ref sig .tc := ⟨.hbm, 390, rfl⟩
abbrev main_v351 : Ref sig .tc := ⟨.hbm, 391, rfl⟩
abbrev main_v352 : Ref sig .tc := ⟨.hbm, 392, rfl⟩
abbrev main_v353 : Ref sig .tc := ⟨.hbm, 393, rfl⟩
abbrev main_v354 : Ref sig .tc := ⟨.hbm, 394, rfl⟩
abbrev main_v355 : Ref sig .tc := ⟨.hbm, 395, rfl⟩
abbrev main_v356 : Ref sig .tc := ⟨.hbm, 396, rfl⟩
abbrev main_v357 : Ref sig .tc := ⟨.hbm, 397, rfl⟩
abbrev main_v358 : Ref sig .tc := ⟨.hbm, 398, rfl⟩
abbrev main_v359 : Ref sig .tc := ⟨.hbm, 399, rfl⟩
abbrev main_v360 : Ref sig .tc := ⟨.hbm, 400, rfl⟩
abbrev main_v361 : Ref sig .tc := ⟨.hbm, 401, rfl⟩
abbrev main_v362 : Ref sig .tc := ⟨.hbm, 402, rfl⟩
abbrev main_v363 : Ref sig .tc := ⟨.hbm, 403, rfl⟩
abbrev main_v364 : Ref sig .tc := ⟨.hbm, 404, rfl⟩
abbrev main_v365 : Ref sig .tc := ⟨.hbm, 405, rfl⟩
abbrev main_v366 : Ref sig .tc := ⟨.hbm, 406, rfl⟩
abbrev main_v367 : Ref sig .tc := ⟨.hbm, 407, rfl⟩
abbrev main_v368 : Ref sig .tc := ⟨.hbm, 408, rfl⟩
abbrev main_v369 : Ref sig .tc := ⟨.hbm, 409, rfl⟩
abbrev main_v370 : Ref sig .tc := ⟨.hbm, 410, rfl⟩
abbrev main_cst_9 : Ref sig .tc := ⟨.hbm, 411, rfl⟩
abbrev main_v371 : Ref sig .tc := ⟨.hbm, 412, rfl⟩
abbrev main_v372 : Ref sig .tc := ⟨.hbm, 413, rfl⟩
abbrev main_v373 : Ref sig .tc := ⟨.hbm, 414, rfl⟩
abbrev main_cst_10 : Ref sig .tc := ⟨.hbm, 415, rfl⟩
abbrev main_v374 : Ref sig .tc := ⟨.hbm, 416, rfl⟩
abbrev main_v375 : Ref sig .tc := ⟨.hbm, 417, rfl⟩
abbrev main_v376 : Ref sig .tc := ⟨.hbm, 418, rfl⟩
abbrev main_v377 : Ref sig .tc := ⟨.hbm, 419, rfl⟩
abbrev main_v378 : Ref sig .tc := ⟨.hbm, 420, rfl⟩
abbrev main_v379 : Ref sig .tc := ⟨.hbm, 421, rfl⟩
abbrev main_v380 : Ref sig .tc := ⟨.hbm, 422, rfl⟩
abbrev main_v381 : Ref sig .tc := ⟨.hbm, 423, rfl⟩
abbrev main_v382 : Ref sig .tc := ⟨.hbm, 424, rfl⟩
abbrev main_v383 : Ref sig .tc := ⟨.hbm, 425, rfl⟩
abbrev main_v384 : Ref sig .tc := ⟨.hbm, 426, rfl⟩
abbrev main_v385 : Ref sig .tc := ⟨.hbm, 427, rfl⟩
abbrev main_v386 : Ref sig .tc := ⟨.hbm, 428, rfl⟩
abbrev main_v387 : Ref sig .tc := ⟨.hbm, 429, rfl⟩
abbrev main_v388 : Ref sig .tc := ⟨.hbm, 430, rfl⟩
abbrev main_v389 : Ref sig .tc := ⟨.hbm, 431, rfl⟩
abbrev main_v390 : Ref sig .tc := ⟨.hbm, 432, rfl⟩
abbrev main_v391 : Ref sig .tc := ⟨.hbm, 433, rfl⟩
abbrev main_v392 : Ref sig .tc := ⟨.hbm, 434, rfl⟩
abbrev main_v393 : Ref sig .tc := ⟨.hbm, 435, rfl⟩
abbrev main_v394 : Ref sig .tc := ⟨.hbm, 436, rfl⟩
abbrev main_v395 : Ref sig .tc := ⟨.hbm, 437, rfl⟩
abbrev main_v396 : Ref sig .tc := ⟨.hbm, 438, rfl⟩
abbrev main_v397 : Ref sig .tc := ⟨.hbm, 439, rfl⟩
abbrev main_v398 : Ref sig .tc := ⟨.hbm, 440, rfl⟩
abbrev main_v399 : Ref sig .tc := ⟨.hbm, 441, rfl⟩
abbrev main_v400 : Ref sig .tc := ⟨.hbm, 442, rfl⟩
abbrev main_v401 : Ref sig .tc := ⟨.hbm, 443, rfl⟩
abbrev main_v402 : Ref sig .tc := ⟨.hbm, 444, rfl⟩
abbrev main_v403 : Ref sig .tc := ⟨.hbm, 445, rfl⟩
abbrev main_v404 : Ref sig .tc := ⟨.hbm, 446, rfl⟩
abbrev main_v405 : Ref sig .tc := ⟨.hbm, 447, rfl⟩
abbrev main_v406 : Ref sig .tc := ⟨.hbm, 448, rfl⟩
abbrev main_v407 : Ref sig .tc := ⟨.hbm, 449, rfl⟩
abbrev main_v408 : Ref sig .tc := ⟨.hbm, 450, rfl⟩
abbrev main_v409 : Ref sig .tc := ⟨.hbm, 451, rfl⟩
abbrev main_v410 : Ref sig .tc := ⟨.hbm, 452, rfl⟩
abbrev main_v411 : Ref sig .tc := ⟨.hbm, 453, rfl⟩
abbrev main_v412 : Ref sig .tc := ⟨.hbm, 454, rfl⟩
abbrev main_v413 : Ref sig .tc := ⟨.hbm, 455, rfl⟩
abbrev main_v414 : Ref sig .tc := ⟨.hbm, 456, rfl⟩
abbrev main_v415 : Ref sig .tc := ⟨.hbm, 457, rfl⟩
abbrev main_v416 : Ref sig .tc := ⟨.hbm, 458, rfl⟩
abbrev main_v417 : Ref sig .tc := ⟨.hbm, 459, rfl⟩
abbrev main_v418 : Ref sig .tc := ⟨.hbm, 460, rfl⟩
abbrev main_v419 : Ref sig .tc := ⟨.hbm, 461, rfl⟩
abbrev main_v420 : Ref sig .tc := ⟨.hbm, 462, rfl⟩
abbrev main_v421 : Ref sig .tc := ⟨.hbm, 463, rfl⟩
abbrev main_v422 : Ref sig .tc := ⟨.hbm, 464, rfl⟩
abbrev main_v423 : Ref sig .tc := ⟨.hbm, 465, rfl⟩
abbrev main_v424 : Ref sig .tc := ⟨.hbm, 466, rfl⟩
abbrev main_v425 : Ref sig .tc := ⟨.hbm, 467, rfl⟩
abbrev main_v426 : Ref sig .tc := ⟨.hbm, 468, rfl⟩
abbrev main_v427 : Ref sig .tc := ⟨.hbm, 469, rfl⟩
abbrev main_v428 : Ref sig .tc := ⟨.hbm, 470, rfl⟩
abbrev main_v429 : Ref sig .tc := ⟨.hbm, 471, rfl⟩
abbrev main_v430 : Ref sig .tc := ⟨.hbm, 472, rfl⟩
abbrev main_v431 : Ref sig .tc := ⟨.hbm, 473, rfl⟩
abbrev main_v432 : Ref sig .tc := ⟨.hbm, 474, rfl⟩
abbrev main_v433 : Ref sig .tc := ⟨.hbm, 475, rfl⟩
abbrev main_v434 : Ref sig .tc := ⟨.hbm, 476, rfl⟩
abbrev main_v435 : Ref sig .tc := ⟨.hbm, 477, rfl⟩
abbrev main_v436 : Ref sig .tc := ⟨.hbm, 478, rfl⟩
abbrev main_v437 : Ref sig .tc := ⟨.hbm, 479, rfl⟩
abbrev main_v438 : Ref sig .tc := ⟨.hbm, 480, rfl⟩
abbrev main_v439 : Ref sig .tc := ⟨.hbm, 481, rfl⟩
abbrev main_v440 : Ref sig .tc := ⟨.hbm, 482, rfl⟩
abbrev main_v441 : Ref sig .tc := ⟨.hbm, 483, rfl⟩
abbrev main_v442 : Ref sig .tc := ⟨.hbm, 484, rfl⟩
abbrev main_v443 : Ref sig .tc := ⟨.hbm, 485, rfl⟩
abbrev main_v444 : Ref sig .tc := ⟨.hbm, 486, rfl⟩
abbrev main_v445 : Ref sig .tc := ⟨.hbm, 487, rfl⟩
abbrev main_v446 : Ref sig .tc := ⟨.hbm, 488, rfl⟩
abbrev main_v447 : Ref sig .tc := ⟨.hbm, 489, rfl⟩
abbrev main_v448 : Ref sig .tc := ⟨.hbm, 490, rfl⟩
abbrev main_v449 : Ref sig .tc := ⟨.hbm, 491, rfl⟩
abbrev main_v450 : Ref sig .tc := ⟨.hbm, 492, rfl⟩
abbrev main_v451 : Ref sig .tc := ⟨.hbm, 493, rfl⟩
abbrev main_v452 : Ref sig .tc := ⟨.hbm, 494, rfl⟩
abbrev main_v453 : Ref sig .tc := ⟨.hbm, 495, rfl⟩
abbrev main_v454 : Ref sig .tc := ⟨.hbm, 496, rfl⟩
abbrev main_v455 : Ref sig .tc := ⟨.hbm, 497, rfl⟩
abbrev main_v456 : Ref sig .tc := ⟨.hbm, 498, rfl⟩
abbrev main_v457 : Ref sig .tc := ⟨.hbm, 499, rfl⟩
abbrev main_v458 : Ref sig .tc := ⟨.hbm, 500, rfl⟩
abbrev main_v459 : Ref sig .tc := ⟨.hbm, 501, rfl⟩
abbrev main_v460 : Ref sig .tc := ⟨.hbm, 502, rfl⟩
abbrev main_v461 : Ref sig .tc := ⟨.hbm, 503, rfl⟩
abbrev main_v462 : Ref sig .tc := ⟨.hbm, 504, rfl⟩
abbrev main_v463 : Ref sig .tc := ⟨.hbm, 505, rfl⟩
abbrev main_v464 : Ref sig .tc := ⟨.hbm, 506, rfl⟩
abbrev main_v465 : Ref sig .tc := ⟨.hbm, 507, rfl⟩
abbrev main_v466 : Ref sig .tc := ⟨.hbm, 508, rfl⟩
abbrev main_v467 : Ref sig .tc := ⟨.hbm, 509, rfl⟩
abbrev main_v468 : Ref sig .tc := ⟨.hbm, 510, rfl⟩
abbrev main_v469 : Ref sig .tc := ⟨.hbm, 511, rfl⟩
abbrev main_v470 : Ref sig .tc := ⟨.hbm, 512, rfl⟩
abbrev main_v471 : Ref sig .tc := ⟨.hbm, 513, rfl⟩
abbrev main_v472 : Ref sig .tc := ⟨.hbm, 514, rfl⟩
abbrev main_v473 : Ref sig .tc := ⟨.hbm, 515, rfl⟩
abbrev main_v474 : Ref sig .tc := ⟨.hbm, 516, rfl⟩
abbrev main_v475 : Ref sig .tc := ⟨.hbm, 517, rfl⟩
abbrev main_v476 : Ref sig .tc := ⟨.hbm, 518, rfl⟩
abbrev main_v477 : Ref sig .tc := ⟨.hbm, 519, rfl⟩
abbrev main_v478 : Ref sig .tc := ⟨.hbm, 520, rfl⟩
abbrev main_cst_11 : Ref sig .tc := ⟨.hbm, 521, rfl⟩
abbrev main_v479 : Ref sig .tc := ⟨.hbm, 522, rfl⟩
abbrev main_v480 : Ref sig .tc := ⟨.hbm, 523, rfl⟩
abbrev main_v481 : Ref sig .tc := ⟨.hbm, 524, rfl⟩
abbrev main_v482 : Ref sig .tc := ⟨.hbm, 525, rfl⟩
abbrev main_v483 : Ref sig .tc := ⟨.hbm, 526, rfl⟩
abbrev main_v484 : Ref sig .tc := ⟨.hbm, 527, rfl⟩
abbrev main_v485 : Ref sig .tc := ⟨.hbm, 528, rfl⟩
abbrev main_cst_12 : Ref sig .tc := ⟨.hbm, 529, rfl⟩
abbrev main_v486 : Ref sig .tc := ⟨.hbm, 530, rfl⟩
abbrev main_v487 : Ref sig .tc := ⟨.hbm, 531, rfl⟩
abbrev main_v488 : Ref sig .tc := ⟨.hbm, 532, rfl⟩
abbrev main_v489 : Ref sig .tc := ⟨.hbm, 533, rfl⟩
abbrev main_v490 : Ref sig .tc := ⟨.hbm, 534, rfl⟩
abbrev main_v491 : Ref sig .tc := ⟨.hbm, 535, rfl⟩
abbrev main_v492 : Ref sig .tc := ⟨.hbm, 536, rfl⟩
abbrev main_cst_13 : Ref sig .tc := ⟨.hbm, 537, rfl⟩
abbrev main_v493 : Ref sig .tc := ⟨.hbm, 538, rfl⟩
abbrev main_v494 : Ref sig .tc := ⟨.hbm, 539, rfl⟩
abbrev main_v495 : Ref sig .tc := ⟨.hbm, 540, rfl⟩
abbrev main_v496 : Ref sig .tc := ⟨.hbm, 541, rfl⟩
abbrev main_v497 : Ref sig .tc := ⟨.hbm, 542, rfl⟩
abbrev main_v498 : Ref sig .tc := ⟨.hbm, 543, rfl⟩
abbrev main_v499 : Ref sig .tc := ⟨.hbm, 544, rfl⟩
abbrev main_cst_14 : Ref sig .tc := ⟨.hbm, 545, rfl⟩
abbrev main_v500 : Ref sig .tc := ⟨.hbm, 546, rfl⟩
abbrev main_v501 : Ref sig .tc := ⟨.hbm, 547, rfl⟩
abbrev main_v502 : Ref sig .tc := ⟨.hbm, 548, rfl⟩
abbrev main_v503 : Ref sig .tc := ⟨.hbm, 549, rfl⟩
abbrev main_v504 : Ref sig .tc := ⟨.hbm, 550, rfl⟩
abbrev main_v505 : Ref sig .tc := ⟨.hbm, 551, rfl⟩
abbrev main_v506 : Ref sig .tc := ⟨.hbm, 552, rfl⟩
abbrev main_cst_15 : Ref sig .tc := ⟨.hbm, 553, rfl⟩
abbrev main_v507 : Ref sig .tc := ⟨.hbm, 554, rfl⟩
abbrev main_v508 : Ref sig .tc := ⟨.hbm, 555, rfl⟩
abbrev main_v509 : Ref sig .tc := ⟨.hbm, 556, rfl⟩
abbrev main_v510 : Ref sig .tc := ⟨.hbm, 557, rfl⟩
abbrev main_v511 : Ref sig .tc := ⟨.hbm, 558, rfl⟩
abbrev main_v512 : Ref sig .tc := ⟨.hbm, 559, rfl⟩
abbrev main_v513 : Ref sig .tc := ⟨.hbm, 560, rfl⟩
abbrev main_cst_16 : Ref sig .tc := ⟨.hbm, 561, rfl⟩
abbrev main_v514 : Ref sig .tc := ⟨.hbm, 562, rfl⟩
abbrev main_v515 : Ref sig .tc := ⟨.hbm, 563, rfl⟩
abbrev main_v516 : Ref sig .tc := ⟨.hbm, 564, rfl⟩
abbrev main_v517 : Ref sig .tc := ⟨.hbm, 565, rfl⟩
abbrev main_v518 : Ref sig .tc := ⟨.hbm, 566, rfl⟩
abbrev main_v519 : Ref sig .tc := ⟨.hbm, 567, rfl⟩
abbrev main_v520 : Ref sig .tc := ⟨.hbm, 568, rfl⟩
abbrev main_cst_17 : Ref sig .tc := ⟨.hbm, 569, rfl⟩
abbrev main_v521 : Ref sig .tc := ⟨.hbm, 570, rfl⟩
abbrev main_v522 : Ref sig .tc := ⟨.hbm, 571, rfl⟩
abbrev main_v523 : Ref sig .tc := ⟨.hbm, 572, rfl⟩
abbrev main_v524 : Ref sig .tc := ⟨.hbm, 573, rfl⟩
abbrev main_v525 : Ref sig .tc := ⟨.hbm, 574, rfl⟩
abbrev main_v526 : Ref sig .tc := ⟨.hbm, 575, rfl⟩
abbrev main_v527 : Ref sig .tc := ⟨.hbm, 576, rfl⟩
abbrev main_cst_18 : Ref sig .tc := ⟨.hbm, 577, rfl⟩
abbrev main_v528 : Ref sig .tc := ⟨.hbm, 578, rfl⟩
abbrev main_v529 : Ref sig .tc := ⟨.hbm, 579, rfl⟩
abbrev main_v530 : Ref sig .tc := ⟨.hbm, 580, rfl⟩
abbrev main_v531 : Ref sig .tc := ⟨.hbm, 581, rfl⟩
abbrev main_v532 : Ref sig .tc := ⟨.hbm, 582, rfl⟩
abbrev main_v533 : Ref sig .tc := ⟨.hbm, 583, rfl⟩
abbrev main_v534 : Ref sig .tc := ⟨.hbm, 584, rfl⟩
abbrev main_v535 : Ref sig .tc := ⟨.hbm, 585, rfl⟩
abbrev main_v536 : Ref sig .tc := ⟨.hbm, 586, rfl⟩
abbrev main_v537 : Ref sig .tc := ⟨.hbm, 587, rfl⟩
abbrev main_v538 : Ref sig .tc := ⟨.hbm, 588, rfl⟩
abbrev main_v539 : Ref sig .tc := ⟨.hbm, 589, rfl⟩
abbrev main_v540 : Ref sig .tc := ⟨.hbm, 590, rfl⟩
abbrev main_v541 : Ref sig .tc := ⟨.hbm, 591, rfl⟩
abbrev main_v542 : Ref sig .tc := ⟨.hbm, 592, rfl⟩
abbrev main_v543 : Ref sig .tc := ⟨.hbm, 593, rfl⟩
abbrev main_v544 : Ref sig .tc := ⟨.hbm, 594, rfl⟩
abbrev main_v545 : Ref sig .tc := ⟨.hbm, 595, rfl⟩
abbrev main_v546 : Ref sig .tc := ⟨.hbm, 596, rfl⟩
abbrev main_v547 : Ref sig .tc := ⟨.hbm, 597, rfl⟩
abbrev main_cst_19 : Ref sig .tc := ⟨.hbm, 598, rfl⟩
abbrev main_v548 : Ref sig .tc := ⟨.hbm, 599, rfl⟩
abbrev main_cst_20 : Ref sig .tc := ⟨.hbm, 600, rfl⟩
abbrev main_v549 : Ref sig .tc := ⟨.hbm, 601, rfl⟩
abbrev main_v550 : Ref sig .tc := ⟨.hbm, 602, rfl⟩
abbrev main_cst_21 : Ref sig .tc := ⟨.hbm, 603, rfl⟩
abbrev main_v551 : Ref sig .tc := ⟨.hbm, 604, rfl⟩
abbrev main_v552 : Ref sig .tc := ⟨.hbm, 605, rfl⟩
abbrev main_v553 : Ref sig .tc := ⟨.hbm, 606, rfl⟩
abbrev main_v554 : Ref sig .tc := ⟨.hbm, 607, rfl⟩
abbrev main_v555 : Ref sig .tc := ⟨.hbm, 608, rfl⟩
abbrev main_v556 : Ref sig .tc := ⟨.hbm, 609, rfl⟩
abbrev main_v557 : Ref sig .tc := ⟨.hbm, 610, rfl⟩
abbrev main_v558 : Ref sig .tc := ⟨.hbm, 611, rfl⟩
abbrev main_v559 : Ref sig .tc := ⟨.hbm, 612, rfl⟩
abbrev main_v560 : Ref sig .tc := ⟨.hbm, 613, rfl⟩
abbrev main_v561 : Ref sig .tc := ⟨.hbm, 614, rfl⟩
abbrev main_v562 : Ref sig .tc := ⟨.hbm, 615, rfl⟩
abbrev main_v563 : Ref sig .tc := ⟨.hbm, 616, rfl⟩
abbrev main_v564 : Ref sig .tc := ⟨.hbm, 617, rfl⟩
abbrev main_v565 : Ref sig .tc := ⟨.hbm, 618, rfl⟩
abbrev main_v566 : Ref sig .tc := ⟨.hbm, 619, rfl⟩
abbrev main_v567 : Ref sig .tc := ⟨.hbm, 620, rfl⟩
abbrev main_v568 : Ref sig .tc := ⟨.hbm, 621, rfl⟩
abbrev main_v569 : Ref sig .tc := ⟨.hbm, 622, rfl⟩
abbrev main_v570 : Ref sig .tc := ⟨.hbm, 623, rfl⟩
abbrev main_v571 : Ref sig .tc := ⟨.hbm, 624, rfl⟩
abbrev main_call26_cst : Ref sig .tc := ⟨.hbm, 625, rfl⟩
abbrev main_call26_v0 : Ref sig .tc := ⟨.hbm, 626, rfl⟩
abbrev main_v572 : Ref sig .tc := ⟨.hbm, 627, rfl⟩
abbrev main_v573 : Ref sig .tc := ⟨.hbm, 628, rfl⟩
abbrev main_v574 : Ref sig .tc := ⟨.hbm, 629, rfl⟩
abbrev main_v575 : Ref sig .tc := ⟨.hbm, 630, rfl⟩
abbrev main_v576 : Ref sig .tc := ⟨.hbm, 631, rfl⟩
abbrev main_v577 : Ref sig .tc := ⟨.hbm, 632, rfl⟩
abbrev main_v578 : Ref sig .tc := ⟨.hbm, 633, rfl⟩
abbrev main_v579 : Ref sig .tc := ⟨.hbm, 634, rfl⟩
abbrev main_v580 : Ref sig .tc := ⟨.hbm, 635, rfl⟩
abbrev main_v581 : Ref sig .tc := ⟨.hbm, 636, rfl⟩
abbrev main_v582 : Ref sig .tc := ⟨.hbm, 637, rfl⟩
abbrev main_v583 : Ref sig .tc := ⟨.hbm, 638, rfl⟩

abbrev nD : Nat := 1
abbrev τ : Topo := Topo.v7x

variable {F : FTy → Type} [FloatOps F]
-- ==== Proof.Net.lean ====
/- The network's mathematics on functions of natural numbers: what both programs are shown to compute. An array is a
   function of its coordinates; the sums are over `Finset.range`. -/
module

public import Idealize.ShloMosaic.Lib.Pointwise

@[expose] public section

noncomputable section

namespace Cert.Net

open Finset

/-! ## Sums -/

/-- A sum over `a * b` terms, in `a` groups of `b`. -/
theorem sum_range_mul {M : Type*} [AddCommMonoid M] (a b : ℕ) (f : ℕ → M) :
    ∑ i ∈ range (a * b), f i = ∑ i ∈ range a, ∑ j ∈ range b, f (i * b + j) := by
  induction a with
  | zero => simp
  | succ a ih => rw [Nat.succ_mul, sum_range_add, ih, sum_range_succ]

/-- A sum over the indices below `n` is the sum over the numbers below `n`. -/
theorem sum_fin {M : Type*} [AddCommMonoid M] (n : ℕ) (f : ℕ → M) : ∑ i : Fin n, f i = ∑ i ∈ range n, f i :=
  (Finset.sum_range f).symm

/-- Scaling by a non-negative real number goes into a sum, whatever the terms. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [sum_insert ha, sum_insert ha, ← ih]
    exact EReal.right_distrib_of_nonneg_of_ne_top (by exact_mod_cast hc) (EReal.coe_ne_top c) _ _

/-! ## Convolution and pooling -/

/-- A 3 × 3 convolution of `n` channels at row `r`, column `s`. -/
def conv (n : ℕ) (X w : ℕ → ℕ → ℕ → EReal) (r s : ℕ) : EReal :=
  ∑ kh ∈ range 3, ∑ kw ∈ range 3, ∑ i ∈ range n, X i (r + kh) (s + kw) * w i kh kw

/-- The greatest of a 2 × 2 window. -/
def pool (Y : ℕ → ℕ → EReal) (r s : ℕ) : EReal :=
  max (max (Y (2 * r) (2 * s)) (Y (2 * r) (2 * s + 1))) (max (Y (2 * r + 1) (2 * s)) (Y (2 * r + 1) (2 * s + 1)))

/-- Convolution, bias, positive part, pooling. -/
def stage (n : ℕ) (X w : ℕ → ℕ → ℕ → EReal) (β : EReal) (r s : ℕ) : EReal :=
  pool (fun r s => max (conv n X w r s + β) 0) r s

/-- An image of 28 × 28 with a border of zeros. -/
def padded (x : ℕ → ℕ → ℕ → EReal) (i h w : ℕ) : EReal :=
  if 1 ≤ h ∧ h ≤ 28 ∧ 1 ≤ w ∧ w ≤ 28 then x i (h - 1) (w - 1) else 0

/-- The first stage's channel `o`. -/
def hid (x : ℕ → ℕ → ℕ → EReal) (w : ℕ → ℕ → ℕ → ℕ → EReal) (β : ℕ → EReal) (o r s : ℕ) : EReal :=
  stage 3 (padded x) (w o) (β o) r s

/-- The second stage's channel `o`, from the first stage's channels `H`. -/
def feat (H : ℕ → ℕ → ℕ → EReal) (w : ℕ → ℕ → ℕ → ℕ → EReal) (β : ℕ → EReal) (o r s : ℕ) : EReal :=
  stage 32 H (w o) (β o) r s

/-- A feature is not negative. -/
theorem feat_nonneg (H w β o r s) : 0 ≤ feat H w β o r s :=
  le_max_of_le_left (le_max_of_le_left (le_max_right _ _))

/-- The bias and the positive part, applied once to the greatest of four values, whichever way they are paired. -/
theorem max4_bias (a b c d β : EReal) :
    max (max (max a b) (max c d) + β) 0
      = max (max (max (a + β) 0) (max (c + β) 0)) (max (max (b + β) 0) (max (d + β) 0)) := by
  have h : ∀ u v : EReal, max u v + β = max (u + β) (v + β) := fun u v =>
    (Monotone.map_max (f := fun t : EReal => t + β) fun _ _ h => add_le_add_left h β)
  have h0 : ∀ u v : EReal, max (max u v) 0 = max (max u 0) (max v 0) := fun u v => sup_sup_distrib_right u v 0
  rw [h, h, h, h0, h0, h0, max_max_max_comm]

/-- At most one of three taps meets a given column, so the product with the tap's weight is the sum of the products. -/
theorem mul_tap (x : EReal) (w : ℕ → EReal) (p q : ℕ) (n : ℕ) :
    x * ∑ k ∈ range n, (if p = q + k then (1 : EReal) else 0) * w k
      = ∑ k ∈ range n, if p = q + k then x * w k else 0 := by
  by_cases h : q ≤ p ∧ p - q < n
  · obtain ⟨k, rfl⟩ := Nat.exists_eq_add_of_le h.1
    have hk : k ∈ range n := by simpa using h.2
    rw [sum_eq_single_of_mem k hk, sum_eq_single_of_mem k hk]
    · simp
    · intro j _ hj; rw [if_neg (by omega)]
    · intro j _ hj; rw [if_neg (by omega), zero_mul]
  · rw [sum_eq_zero, sum_eq_zero, mul_zero]
    · intro k hk; rw [mem_range] at hk; rw [if_neg (by omega)]
    · intro k hk; rw [mem_range] at hk; rw [if_neg (by omega), zero_mul]

/-- A sum over the columns with one tap is the term of the column it meets. -/
theorem sum_tap (N e q : ℕ) (f : ℕ → EReal) :
    (∑ p ∈ range N, if p + e = q then f p else 0) = if e ≤ q ∧ q - e < N then f (q - e) else 0 := by
  split_ifs with h
  · rw [sum_eq_single_of_mem (q - e) (mem_range.2 h.2)]
    · rw [if_pos (by omega)]
    · intro p _ hp; rw [if_neg (by omega)]
  · refine sum_eq_zero fun p hp => ?_
    rw [mem_range] at hp; rw [if_neg (by omega)]

/-- The banded form of a convolution's row: the sum over all columns `p` of a row, the weights laid out per column,
    for a row that begins `e` columns to the right of where the convolution does. -/
theorem band (n N e q : ℕ) (row : ℕ → ℕ → EReal) (w : ℕ → ℕ → EReal) :
    (∑ i ∈ range n, ∑ p ∈ range N, row i p * ∑ k ∈ range 3, (if p + e = q + k then (1 : EReal) else 0) * w i k)
      = ∑ kw ∈ range 3, ∑ i ∈ range n, if e ≤ q + kw ∧ q + kw - e < N then row i (q + kw - e) * w i kw else 0 := by
  simp only [mul_tap]
  conv_rhs => rw [sum_comm]
  refine sum_congr rfl fun i _ => ?_
  rw [sum_comm]
  exact sum_congr rfl fun k _ => sum_tap _ _ _ _

/-- The first convolution as a contraction over 252 columns: kernel row, channel, image column. The image's rows have a
    border of zeros, and its columns none. -/
theorem conv_band_first (x w : ℕ → ℕ → ℕ → EReal) (R q : ℕ) :
    (∑ κ ∈ range 252, (if 1 ≤ R + κ / 84 ∧ R + κ / 84 ≤ 28 then x (κ % 84 / 28) (R + κ / 84 - 1) (κ % 84 % 28) else 0)
        * ∑ k ∈ range 3, (if κ % 28 + 1 = q + k then (1 : EReal) else 0) * w (κ / 28 % 3) (κ / 84) k)
      = conv 3 (padded x) w R q := by
  rw [show 252 = 3 * (3 * 28) from rfl, sum_range_mul]
  refine sum_congr rfl fun kh _ => ?_
  rw [sum_range_mul]
  refine Eq.trans (sum_congr rfl fun i hi => sum_congr rfl fun p hp => ?_)
    ((band 3 28 1 q (fun i p => if 1 ≤ R + kh ∧ R + kh ≤ 28 then x i (R + kh - 1) p else 0) (fun i k => w i kh k)).trans
      (sum_congr rfl fun kw _ => sum_congr rfl fun i _ => ?_))
  · rw [mem_range] at hi hp
    have h1 : (kh * (3 * 28) + (i * 28 + p)) / 84 = kh := by omega
    have h2 : (kh * (3 * 28) + (i * 28 + p)) % 84 / 28 = i := by omega
    have h3 : (kh * (3 * 28) + (i * 28 + p)) % 84 % 28 = p := by omega
    have h4 : (kh * (3 * 28) + (i * 28 + p)) % 28 = p := by omega
    have h5 : (kh * (3 * 28) + (i * 28 + p)) / 28 % 3 = i := by omega
    simp only [h1, h2, h3, h4, h5]
  · unfold padded
    by_cases h1 : 1 ≤ R + kh ∧ R + kh ≤ 28
    · by_cases h2 : 1 ≤ q + kw ∧ q + kw - 1 < 28
      · rw [if_pos h2, if_pos h1, if_pos (by omega)]
      · rw [if_neg h2, if_neg (by omega), zero_mul]
    · have h2 : ¬(1 ≤ R + kh ∧ R + kh ≤ 28 ∧ 1 ≤ q + kw ∧ q + kw ≤ 28) := fun h => h1 ⟨h.1, h.2.1⟩
      rw [if_neg h1, if_neg h2, zero_mul, ite_self]

/-- The second convolution as three contractions over 448 columns, one per kernel row: channel, column of the first
    stage's map. -/
theorem conv_band_second (H w : ℕ → ℕ → ℕ → EReal) (R q : ℕ) (hq : q ≤ 11) :
    (∑ kh ∈ range 3, ∑ κ ∈ range 448, H (κ / 14) (R + kh) (κ % 14)
        * ∑ k ∈ range 3, (if κ % 14 = q + k then (1 : EReal) else 0) * w (κ / 14) kh k)
      = conv 32 H w R q := by
  refine sum_congr rfl fun kh _ => ?_
  rw [show 448 = 32 * 14 from rfl, sum_range_mul]
  refine Eq.trans (sum_congr rfl fun i hi => sum_congr rfl fun p hp => ?_)
    ((band 32 14 0 q (fun i p => H i (R + kh) p) (fun i k => w i kh k)).trans
      (sum_congr rfl fun kw hkw => sum_congr rfl fun i _ => ?_))
  · rw [mem_range] at hi hp
    have h1 : (i * 14 + p) / 14 = i := by omega
    have h2 : (i * 14 + p) % 14 = p := by omega
    simp only [h1, h2, Nat.add_zero]
  · rw [mem_range] at hkw
    rw [if_pos (by omega), Nat.sub_zero]

end Cert.Net

end
-- ==== Proof.Circuit.lean ====
/- The circuit on real amplitudes: 256 basis states, numbered so that qubit `q` is the bit of weight `2 ^ (7 - q)`. -/
module

public import Idealize.ShloMosaic.Lib.Pointwise

@[expose] public section

noncomputable section

namespace Cert.Net

open Finset

/-- The basis state `k` with the bit of weight `r` changed. -/
def flip (r k : ℕ) : ℕ := if k / r % 2 = 0 then k + r else k - r

/-- `-1` where the bit of weight `r` is clear, `1` where it is set. -/
def sgn (r k : ℕ) : ℝ := if k / r % 2 = 0 then -1 else 1

/-- The rotation with cosine `c` and sine `s` on the qubit whose bit has weight `r`. -/
def ry (r : ℕ) (c s : ℝ) (σ : ℕ → ℝ) (k : ℕ) : ℝ := c * σ k + s * (sgn r k * σ (flip r k))

/-- The basis state `k` with the bit of weight `r` changed where the next higher bit is set. -/
def cflip (r k : ℕ) : ℕ := if k / (2 * r) % 2 = 0 then k else flip r k

/-- The basis state whose amplitude the seven controlled flips bring to `k`. -/
def chain (k : ℕ) : ℕ := cflip 64 (cflip 32 (cflip 16 (cflip 8 (cflip 4 (cflip 2 (cflip 1 k))))))

/-- The eight rotations, of the qubits in order. -/
def rotations (c s : ℕ → ℝ) (σ : ℕ → ℝ) : ℕ → ℝ :=
  ry 1 (c 7) (s 7) (ry 2 (c 6) (s 6) (ry 4 (c 5) (s 5) (ry 8 (c 4) (s 4) (ry 16 (c 3) (s 3) (ry 32 (c 2) (s 2)
    (ry 64 (c 1) (s 1) (ry 128 (c 0) (s 0) σ)))))))

/-- A layer with half angles `α`: the rotations, then the controlled flips. -/
def layer (α : ℕ → ℝ) (σ : ℕ → ℝ) (k : ℕ) : ℝ :=
  rotations (fun q => Real.cos (α q)) (fun q => Real.sin (α q)) σ (chain k)

/-- The state all of whose weight is at 0. -/
def start (k : ℕ) : ℝ := if k = 0 then 1 else 0

/-- Three layers with parameters `θ`, the inputs `x` added to each. -/
def circuit (θ : ℕ → ℕ → ℝ) (x : ℕ → ℝ) : ℕ → ℝ :=
  layer (fun q => (θ 2 q + x q) / 2) (layer (fun q => (θ 1 q + x q) / 2) (layer (fun q => (θ 0 q + x q) / 2) start))

/-- `1` where qubit `q` is 0, `-1` where it is 1. -/
def spin (q k : ℕ) : ℝ := if k / 2 ^ (7 - q) % 2 = 0 then 1 else -1

/-- The expectation of qubit `q`'s spin. -/
def expect (σ : ℕ → ℝ) (q : ℕ) : ℝ := ∑ k ∈ range 256, σ k * σ k * spin q k

/-- Two rotations at once: of the amplitudes, those with neither bit, the one, the other and both changed. -/
theorem ry_ry (a b : ℕ) (ca sa cb sb : ℝ) (σ : ℕ → ℝ) (k : ℕ) :
    ca * cb * σ k + sa * cb * (σ (flip a k) * sgn a k) + ca * sb * (σ (flip b k) * sgn b k)
      + sa * sb * (σ (flip a (flip b k)) * (sgn a (flip b k) * sgn b k))
      = ry b cb sb (ry a ca sa σ) k := by
  unfold ry; ring

end Cert.Net

end
-- ==== Proof.Model.lean ====
/- What both programs compute, as a function of their arguments: each argument is a function of its coordinates. -/
module

public import proofs.«01_k».proof.Proof.Net
public import proofs.«01_k».proof.Proof.Circuit

@[expose] public section

noncomputable section

namespace Cert.Net

open Finset Idealize.ShloMosaic

/-! ## Literals -/

theorem ofBits_half : Ideal.ofBits .f32 1056964608#32 = (((1 : ℝ) / 2 : ℝ) : EReal) := by
  simp [Ideal.ofBits, Ideal.ieee, -EReal.coe_mul]; norm_num

theorem ofBits_thirtysix : Ideal.ofBits .f32 1108344832#32 = ((36 : ℝ) : EReal) := by
  simp [Ideal.ofBits, Ideal.ieee, -EReal.coe_mul]; norm_num

theorem ofBits_one : Ideal.ofBits .f32 1065353216#32 = 1 := by
  simp [Ideal.ofBits, Ideal.ieee, -EReal.coe_mul]; norm_num

theorem ofBits_neg_one : Ideal.ofBits .f32 3212836864#32 = ((-1 : ℝ) : EReal) := by
  simp [Ideal.ofBits, Ideal.ieee, -EReal.coe_mul, -EReal.coe_neg]; norm_num

/-- The small number added to a norm. -/
def tiny : EReal := Ideal.ofBits .f32 841731191#32

theorem tiny_pos : ∃ ε : ℝ, 0 < ε ∧ tiny = (ε : EReal) := by
  refine ⟨11258999 * (2 : ℝ) ^ (-50 : ℤ), by positivity, ?_⟩
  simp [tiny, Ideal.ofBits, Ideal.ieee, -EReal.coe_mul]

/-! ## The operations with infinite corners, at real numbers -/

theorem cos_coe (r : ℝ) : Ideal.cos ((r : ℝ) : EReal) = ((Real.cos r : ℝ) : EReal) := rfl
theorem sin_coe (r : ℝ) : Ideal.sin ((r : ℝ) : EReal) = ((Real.sin r : ℝ) : EReal) := rfl

theorem div_real (x : EReal) {r : ℝ} (h : r ≠ 0) : Ideal.div x ((r : ℝ) : EReal) = x * ((r⁻¹ : ℝ) : EReal) := by
  rw [Ideal.div, if_neg (by exact_mod_cast h), EReal.coe_inv]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-! ## The normalised features -/

/-- Feature `q` over the first eight features' norm. -/
def unit (ρ : ℕ → EReal) (q : ℕ) : EReal := Ideal.div (ρ q) (Ideal.sqrt (∑ j ∈ range 8, ρ j * ρ j) + tiny)

/-- The normalised features are real numbers, even where a feature is infinite. -/
theorem unit_real (ρ : ℕ → EReal) (h : ∀ j, 0 ≤ ρ j) (q : ℕ) (hq : q < 8) : unit ρ q = ((unit ρ q).toReal : EReal) := by
  obtain ⟨ε, hε, hε'⟩ := tiny_pos
  suffices ∃ r : ℝ, unit ρ q = (r : EReal) by
    obtain ⟨r, hr⟩ := this
    rw [hr, EReal.toReal_coe]
  unfold unit
  rw [hε']
  by_cases hf : ∃ j ∈ range 8, ρ j = ⊤
  · obtain ⟨j, hj, hj'⟩ := hf
    have hs : ∑ j ∈ range 8, ρ j * ρ j = ⊤ := by
      refine top_le_iff.mp (le_trans ?_ (single_le_sum (fun i _ => mul_nonneg (h i) (h i)) hj))
      rw [hj', EReal.top_mul_top]
    refine ⟨0, ?_⟩
    rw [hs, show Ideal.sqrt ⊤ = ⊤ from rfl, EReal.top_add_coe, Ideal.div, if_neg EReal.top_ne_zero, EReal.inv_top, mul_zero,
      EReal.coe_zero]
  · push Not at hf
    have hr : ∀ j ∈ range 8, ρ j = (((ρ j).toReal : ℝ) : EReal) := fun j hj =>
      (EReal.coe_toReal (hf j hj) (ne_of_gt (lt_of_lt_of_le EReal.bot_lt_zero (h j)))).symm
    have hs : ∑ j ∈ range 8, ρ j * ρ j = ((∑ j ∈ range 8, (ρ j).toReal * (ρ j).toReal : ℝ) : EReal) := by
      rw [coe_sum]
      exact sum_congr rfl fun j hj => by rw [EReal.coe_mul, ← hr j hj]
    have h0 : ¬ (∑ j ∈ range 8, (ρ j).toReal * (ρ j).toReal < 0) :=
      not_lt.mpr (sum_nonneg fun j _ => mul_self_nonneg _)
    rw [hs, show ∀ r : ℝ, Ideal.sqrt (r : EReal) = if r < 0 then ⊥ else (Real.sqrt r : EReal) from fun _ => rfl, if_neg h0,
      ← EReal.coe_add, div_real _ (ne_of_gt (add_pos_of_nonneg_of_pos (Real.sqrt_nonneg _) hε)), hr q (mem_range.mpr hq),
      ← EReal.coe_mul]
    exact ⟨_, rfl⟩

/-! ## The network -/

/-- The number the means are multiplied with: π to six digits. -/
def turn : EReal := Ideal.ofBits .f32 1078530000#32

/-- The arguments. -/
structure Args where
  x : ℕ → ℕ → ℕ → ℕ → EReal
  w1 : ℕ → ℕ → ℕ → ℕ → EReal
  b1 : ℕ → EReal
  w2 : ℕ → ℕ → ℕ → ℕ → EReal
  b2 : ℕ → EReal
  fc1 : ℕ → ℕ → EReal
  fc1b : ℕ → EReal
  fc2 : ℕ → ℕ → EReal
  fc2b : ℕ → EReal
  q2c : ℕ → ℕ → EReal
  q2cb : ℕ → EReal
  bq : ℕ → ℕ → EReal
  bqb : ℕ → EReal
  bf : ℕ → ℕ → EReal
  bfb : ℕ → EReal
  int : ℕ → ℕ → EReal
  intb : ℕ → EReal
  θ : ℕ → ℕ → ℝ

namespace Args

variable (a : Args) (b : ℕ)

/-- Row `b`'s feature map `c`. -/
def map (c r s : ℕ) : EReal := feat (hid (a.x b) a.w1 a.b1) a.w2 a.b2 c r s

/-- Row `b`'s features in one list. -/
def flat (k : ℕ) : EReal := a.map b (k / 36) (k / 6 % 6) (k % 6)

theorem flat_nonneg (k : ℕ) : 0 ≤ a.flat b k := feat_nonneg _ _ _ _ _ _

/-- The circuit's input angles. -/
def angle (q : ℕ) : ℝ := (unit (a.flat b) q).toReal

/-- The circuit's expectations. -/
def spins (q : ℕ) : ℝ := expect (circuit a.θ (a.angle b)) q

/-- The mean of feature map `c`. -/
def mean (c : ℕ) : EReal := (∑ r ∈ range 6, ∑ s ∈ range 6, a.map b c r s) * (((36 : ℝ)⁻¹ : ℝ) : EReal)

/-- The expectations through their dense layer. -/
def quantum (n : ℕ) : EReal := ∑ q ∈ range 8, ((a.spins b q : ℝ) : EReal) * a.q2c n q + a.q2cb n

/-- The product of the two small dense layers. -/
def fused (j : ℕ) : EReal :=
  Ideal.tanh (∑ n ∈ range 64, a.quantum b n * a.bq j n + a.bqb j)
    * Ideal.tanh (∑ c ∈ range 64, Ideal.sin (a.mean b c * turn) * a.bf j c + a.bfb j)

/-- The features through the first dense layer. -/
def classical (n : ℕ) : EReal := max (∑ k ∈ range 2304, a.flat b k * a.fc1 n k + a.fc1b n) 0

/-- Both halves through the layer that joins them. -/
def joined (n : ℕ) : EReal :=
  ∑ k ∈ range 512, a.classical b k * a.int n k + ∑ k ∈ range 32, a.fused b k * a.int n (512 + k) + a.intb n

/-- The network's result `o` at row `b`. -/
def result (o : ℕ) : EReal := ∑ n ∈ range 512, a.joined b n * a.fc2 o n + a.fc2b o

end Args

end Cert.Net

end
-- ==== Proof.Views.lean ====
/- An array as a function of natural numbers, and the programs' arguments as the network's. -/
module

public import proofs.«01_k».proof.Proof.Model
public import Idealize.ShloMosaic.Lib.Pointwise

@[expose] public section

noncomputable section

namespace Cert.Proof

open Idealize.ShloMosaic Cert.Net

/-- The array `v` at `i`, and 0 outside it. -/
def at1 {a : ℕ} (v : (⟨1, ![a]⟩ : Shape).Idx → EReal) (i : ℕ) : EReal := if h : i < a then v (ix1 ⟨i, h⟩) else 0

/-- The matrix `v` at `i`, `j`, and 0 outside it. -/
def at2 {a b : ℕ} (v : (⟨2, ![a, b]⟩ : Shape).Idx → EReal) (i j : ℕ) : EReal :=
  if h : i < a ∧ j < b then v (ix2 ⟨i, h.1⟩ ⟨j, h.2⟩) else 0

/-- The array `v` at `i`, `j`, `k`, `l`, and 0 outside it. -/
def at4 {a b c d : ℕ} (v : (⟨4, ![a, b, c, d]⟩ : Shape).Idx → EReal) (i j k l : ℕ) : EReal :=
  if h : i < a ∧ j < b ∧ k < c ∧ l < d then v (ix4 ⟨i, h.1⟩ ⟨j, h.2.1⟩ ⟨k, h.2.2.1⟩ ⟨l, h.2.2.2⟩) else 0

theorem at1_ix {a : ℕ} (v : (⟨1, ![a]⟩ : Shape).Idx → EReal) (i : Fin a) : v (ix1 i) = at1 v i := by
  rw [at1, dif_pos i.isLt]

theorem at2_ix {a b : ℕ} (v : (⟨2, ![a, b]⟩ : Shape).Idx → EReal) (i : Fin a) (j : Fin b) : v (ix2 i j) = at2 v i j := by
  rw [at2, dif_pos ⟨i.isLt, j.isLt⟩]

theorem at4_ix {a b c d : ℕ} (v : (⟨4, ![a, b, c, d]⟩ : Shape).Idx → EReal) (i : Fin a) (j : Fin b) (k : Fin c) (l : Fin d) :
    v (ix4 i j k l) = at4 v i j k l := by
  rw [at4, dif_pos ⟨i.isLt, j.isLt, k.isLt, l.isLt⟩]

/-- Two words below `2 ^ 32` are equal when their numbers are. -/
theorem cmpi_eq {i j : ℕ} (hi : i < 2 ^ 32) (hj : j < 2 ^ 32) :
    IntOp.cmpi CmpIPredicate.eq (BitVec.ofNat 32 i) (BitVec.ofNat 32 j) = if i = j then 1#1 else 0#1 := by
  have h : BitVec.ofNat 32 i = BitVec.ofNat 32 j ↔ i = j := by
    rw [← BitVec.toNat_inj, BitVec.toNat_ofNat, BitVec.toNat_ofNat, Nat.mod_eq_of_lt hi, Nat.mod_eq_of_lt hj]
  by_cases e : i = j
  · subst e; simp [IntOp.cmpi]
  · rw [if_neg e]
    show BitVec.ofBool (BitVec.ofNat 32 i == BitVec.ofNat 32 j) = 0#1
    rw [show (BitVec.ofNat 32 i == BitVec.ofNat 32 j) = false from beq_eq_false_iff_ne.2 fun h' => e (h.1 h')]
    rfl

/-- The network's arguments from the eighteen arrays. -/
def argsOf (x : (⟨4, ![2048, 3, 28, 28]⟩ : Shape).Idx → EReal) (w1 : (⟨4, ![32, 3, 3, 3]⟩ : Shape).Idx → EReal)
    (b1 : (⟨1, ![32]⟩ : Shape).Idx → EReal) (w2 : (⟨4, ![64, 32, 3, 3]⟩ : Shape).Idx → EReal)
    (b2 : (⟨1, ![64]⟩ : Shape).Idx → EReal) (fc1 : (⟨2, ![512, 2304]⟩ : Shape).Idx → EReal)
    (fc1b : (⟨1, ![512]⟩ : Shape).Idx → EReal) (fc2 : (⟨2, ![10, 512]⟩ : Shape).Idx → EReal)
    (fc2b : (⟨1, ![10]⟩ : Shape).Idx → EReal) (q2c : (⟨2, ![64, 8]⟩ : Shape).Idx → EReal)
    (q2cb : (⟨1, ![64]⟩ : Shape).Idx → EReal) (bq : (⟨2, ![32, 64]⟩ : Shape).Idx → EReal)
    (bqb : (⟨1, ![32]⟩ : Shape).Idx → EReal) (bf : (⟨2, ![32, 64]⟩ : Shape).Idx → EReal)
    (bfb : (⟨1, ![32]⟩ : Shape).Idx → EReal) (int : (⟨2, ![512, 544]⟩ : Shape).Idx → EReal)
    (intb : (⟨1, ![512]⟩ : Shape).Idx → EReal) (θ : (⟨2, ![3, 8]⟩ : Shape).Idx → EReal) : Args where
  x := at4 x
  w1 := at4 w1
  b1 := at1 b1
  w2 := at4 w2
  b2 := at1 b2
  fc1 := at2 fc1
  fc1b := at1 fc1b
  fc2 := at2 fc2
  fc2b := at1 fc2b
  q2c := at2 q2c
  q2cb := at1 q2cb
  bq := at2 bq
  bqb := at1 bqb
  bf := at2 bf
  bfb := at1 bfb
  int := at2 int
  intb := at1 intb
  θ d q := (at2 θ d q).toReal

end Cert.Proof

end
-- ==== Proof.RefStages.lean ====
/- The reference's two convolution stages, their flattening and the scaled features, read at an index. -/
module

public import proofs.«01_k».proof.Proof.Gen.ReferenceIdeal.Run
public import proofs.«01_k».proof.Proof.Views

@[expose] public section

noncomputable section

namespace Cert.Proof

open Idealize.ShloMosaic Cert.ReferenceIdeal Cert.ReferenceIdeal.Gen Cert.ReferenceIdeal.Value Cert.Net

/-- The network's arguments held by the reference's buffers. -/
def rArgs (V : Valuation τ sig (Elt Ideal)) : Args :=
  argsOf (V (Proc.devRef .tc main_arg0)) (V (Proc.devRef .tc main_arg1)) (V (Proc.devRef .tc main_arg2))
    (V (Proc.devRef .tc main_arg3)) (V (Proc.devRef .tc main_arg4)) (V (Proc.devRef .tc main_arg5))
    (V (Proc.devRef .tc main_arg6)) (V (Proc.devRef .tc main_arg7)) (V (Proc.devRef .tc main_arg8))
    (V (Proc.devRef .tc main_arg9)) (V (Proc.devRef .tc main_arg10)) (V (Proc.devRef .tc main_arg11))
    (V (Proc.devRef .tc main_arg12)) (V (Proc.devRef .tc main_arg13)) (V (Proc.devRef .tc main_arg14))
    (V (Proc.devRef .tc main_arg15)) (V (Proc.devRef .tc main_arg16)) (V (Proc.devRef .tc main_arg17))

variable (V : Valuation τ sig (Elt Ideal))

/-- Nine terms, summed row by row or one after another. -/
theorem nine (T : ℕ → ℕ → EReal) :
    ∑ kh ∈ Finset.range 3, ∑ kw ∈ Finset.range 3, T kh kw
      = T 0 0 + T 0 1 + T 0 2 + T 1 0 + T 1 1 + T 1 2 + T 2 0 + T 2 1 + T 2 2 := by
  simp only [Finset.sum_range_succ, Finset.sum_range_zero, zero_add, ← add_assoc]

/-- One of a convolution's nine terms, the factors in the other order. -/
theorem tap (n : ℕ) (W X : Fin n → EReal) (F G : ℕ → EReal) (hW : ∀ i : Fin n, W i = G i) (hX : ∀ i : Fin n, X i = F i) :
    ∑ i, W i * X i = ∑ i ∈ Finset.range n, F i * G i := by
  rw [← sum_fin]
  exact Finset.sum_congr rfl fun i _ => by rw [hW, hX, mul_comm]

/-- The array padded with one zero on each side of its last two axes. -/
theorem padded_array (x : FVec Ideal S2048x3x28x28 .f32) (b : Fin 2048) (i : Fin 3) (h w : Fin 30) :
    pad S2048x3x30x30 ![0, 0, 1, 1] ![0, 0, 1, 1] ![0, 0, 0, 0] x (sitofp .f32 (constantI S_ 32 0#32))
      pads_S2048x3x28x28_S2048x3x30x30_000_000_110_110 h_S_ (ix4 b i h w) = padded (at4 x b) i h w := by
  unfold padded
  pointwise []
  by_cases hc : 1 ≤ h.val ∧ h.val ≤ 28 ∧ 1 ≤ w.val ∧ w.val ≤ 28
  · rw [if_pos hc]
    exact (dif_pos (by omega)).trans (at4_ix x _ _ _ _)
  · rw [if_neg hc]
    refine (dif_neg fun _ => hc (by omega)).trans ?_
    show (((0#32 : BitVec 32).toInt : ℝ) : EReal) = 0
    simp

theorem ref_padded (b : Fin 2048) (i : Fin 3) (h w : Fin 30) :
    res_main_v0 V (ix4 b i h w) = padded ((rArgs V).x b) i h w :=
  padded_array (V (Proc.devRef .tc main_arg0)) b i h w

theorem ref_conv_one (b : Fin 2048) (o : Fin 32) (r s : Fin 28) :
    res_main_v55 V (ix4 b o r s) = conv 3 (padded ((rArgs V).x b)) ((rArgs V).w1 o) r s := by
  obtain ⟨X, hX⟩ : ∃ X : FVec Ideal S2048x3x30x30 .f32, res_main_v0 V = X := ⟨_, rfl⟩
  obtain ⟨w, hw⟩ : ∃ X : FVec Ideal S32x3x3x3 .f32, V (Proc.devRef .tc main_arg1) = X := ⟨_, rfl⟩
  have hx : ∀ (i : Fin 3) (h w : Fin 30), X (ix4 b i h w) = padded ((rArgs V).x b) i h w := fun i h w => by
    rw [← hX]; exact ref_padded V b i h w
  have hv : ∀ (i h k : Fin 3), w (ix4 o i h k) = (rArgs V).w1 o i h k := fun i h k => by
    rw [← hw]; exact at4_ix (V (Proc.devRef .tc main_arg1)) o i h k
  refine Eq.trans ?_ (nine _).symm
  unfold res_main_v55
  rw [hX, hw]
  pointwise []
  simp only [add_comm (r : ℕ), add_comm (s : ℕ)]
  refine congrArg₂ _ (congrArg₂ _ (congrArg₂ _ (congrArg₂ _ (congrArg₂ _ (congrArg₂ _ (congrArg₂ _ (congrArg₂ _
    ?_ ?_) ?_) ?_) ?_) ?_) ?_) ?_) ?_
  all_goals refine tap 3 _ _ _ _ (fun i => hv i _ _) fun i => (hx i _ _).trans ?_
  all_goals simp only [zero_add]

theorem ref_hid (b : Fin 2048) (o : Fin 32) (r s : Fin 14) :
    res_main_v66 V (ix4 b o r s) = hid ((rArgs V).x b) (rArgs V).w1 (rArgs V).b1 o r s := by
  obtain ⟨Y, hY⟩ : ∃ X : FVec Ideal S2048x32x28x28 .f32, res_main_v55 V = X := ⟨_, rfl⟩
  obtain ⟨β, hβ⟩ : ∃ X : FVec Ideal S32 .f32, V (Proc.devRef .tc main_arg2) = X := ⟨_, rfl⟩
  have hy : ∀ (r s : Fin 28), Y (ix4 b o r s) = conv 3 (padded ((rArgs V).x b)) ((rArgs V).w1 o) r s := fun r s => by
    rw [← hY]; exact ref_conv_one V b o r s
  have hb : β (ix1 o) = (rArgs V).b1 o := by
    rw [← hβ]; exact at1_ix (V (Proc.devRef .tc main_arg2)) o
  unfold res_main_v66 res_main_v59
  rw [hY, hβ]
  pointwise []
  simp only [hy, hb, add_comm 1]
  rfl

theorem ref_conv_two (b : Fin 2048) (o : Fin 64) (r s : Fin 12) :
    res_main_v121 V (ix4 b o r s) = conv 32 (hid ((rArgs V).x b) (rArgs V).w1 (rArgs V).b1) ((rArgs V).w2 o) r s := by
  obtain ⟨X, hX⟩ : ∃ X : FVec Ideal S2048x32x14x14 .f32, res_main_v66 V = X := ⟨_, rfl⟩
  obtain ⟨w, hw⟩ : ∃ X : FVec Ideal S64x32x3x3 .f32, V (Proc.devRef .tc main_arg3) = X := ⟨_, rfl⟩
  have hx : ∀ (i : Fin 32) (h w : Fin 14), X (ix4 b i h w) = hid ((rArgs V).x b) (rArgs V).w1 (rArgs V).b1 i h w :=
    fun i h w => by rw [← hX]; exact ref_hid V b i h w
  have hv : ∀ (i : Fin 32) (h k : Fin 3), w (ix4 o i h k) = (rArgs V).w2 o i h k := fun i h k => by
    rw [← hw]; exact at4_ix (V (Proc.devRef .tc main_arg3)) o i h k
  refine Eq.trans ?_ (nine _).symm
  unfold res_main_v121
  rw [hX, hw]
  pointwise []
  simp only [add_comm (r : ℕ), add_comm (s : ℕ)]
  refine congrArg₂ _ (congrArg₂ _ (congrArg₂ _ (congrArg₂ _ (congrArg₂ _ (congrArg₂ _ (congrArg₂ _ (congrArg₂ _
    ?_ ?_) ?_) ?_) ?_) ?_) ?_) ?_) ?_
  all_goals refine tap 32 _ _ _ _ (fun i => hv i _ _) fun i => (hx i _ _).trans ?_
  all_goals simp only [zero_add]

theorem ref_map (b : Fin 2048) (o : Fin 64) (r s : Fin 6) :
    res_main_v132 V (ix4 b o r s) = (rArgs V).map b o r s := by
  obtain ⟨Y, hY⟩ : ∃ X : FVec Ideal S2048x64x12x12 .f32, res_main_v121 V = X := ⟨_, rfl⟩
  obtain ⟨β, hβ⟩ : ∃ X : FVec Ideal S64 .f32, V (Proc.devRef .tc main_arg4) = X := ⟨_, rfl⟩
  have hy : ∀ (r s : Fin 12), Y (ix4 b o r s)
      = conv 32 (hid ((rArgs V).x b) (rArgs V).w1 (rArgs V).b1) ((rArgs V).w2 o) r s := fun r s => by
    rw [← hY]; exact ref_conv_two V b o r s
  have hb : β (ix1 o) = (rArgs V).b2 o := by
    rw [← hβ]; exact at1_ix (V (Proc.devRef .tc main_arg4)) o
  unfold res_main_v132 res_main_v125
  rw [hY, hβ]
  pointwise []
  simp only [hy, hb, add_comm 1]
  rfl

theorem ref_flat (b : Fin 2048) (k : Fin 2304) : res_main_v133 V (ix2 b k) = (rArgs V).flat b k := by
  obtain ⟨Y, hY⟩ : ∃ X : FVec Ideal S2048x64x6x6 .f32, res_main_v132 V = X := ⟨_, rfl⟩
  have hy : ∀ (o : Fin 64) (r s : Fin 6), Y (ix4 b o r s) = (rArgs V).map b o r s := fun o r s => by
    rw [← hY]; exact ref_map V b o r s
  unfold res_main_v133
  rw [hY]
  pointwise []
  refine (hy _ _ _).trans ?_
  rfl

theorem ref_unit (b : Fin 2048) (q : Fin 8) : res_main_v139 V (ix2 b q) = unit ((rArgs V).flat b) q := by
  obtain ⟨Y, hY⟩ : ∃ X : FVec Ideal S2048x2304 .f32, res_main_v133 V = X := ⟨_, rfl⟩
  have hy : ∀ k : Fin 2304, Y (ix2 b k) = (rArgs V).flat b k := fun k => by rw [← hY]; exact ref_flat V b k
  unfold res_main_v139 res_main_v134 unit
  rw [hY, ← sum_fin]
  pointwise []
  simp only [hy]
  rfl

end Cert.Proof

end
-- ==== Proof.KernelCircuit.lean ====
/- The kernel's circuit on a block of 256 rows, read as a circuit on real amplitudes: each of its products with a table
   moves and signs amplitudes, and each of its four-term combinations is two rotations. -/
module

public import proofs.«01_k».proof.Proof.Gen.KernelIdeal.Skeleton
public import proofs.«01_k».proof.Proof.Circuit

@[expose] public section

noncomputable section

namespace Cert.Proof

open Idealize.ShloMosaic Cert.KernelIdeal Cert.KernelIdeal.Gen Cert.Net

/-- A matrix whose entries are the real numbers `f`. -/
def Reals {m n : ℕ} (v : Vec Ideal ⟨2, ![m, n]⟩ .f32) (f : ℕ → ℕ → ℝ) : Prop :=
  ∀ (i : Fin m) (j : Fin n), v (ix2 i j) = ((f i j : ℝ) : EReal)

/-- A table whose column `k` has `ρ k` in row `r k` and nothing else. -/
def Moves (M : Vec Ideal S1x256x256 .f32) (r : ℕ → ℕ) (ρ : ℕ → ℝ) : Prop :=
  ∀ i k : Fin 256, r k < 256 ∧ M (ix3 0 i k) = if i.val = r k then ((ρ k : ℝ) : EReal) else 0

/-- The product of a state with a table. -/
def move (σ : FVec Ideal S256x256 .f32) (M : FVec Ideal S1x256x256 .f32) : FVec Ideal S256x256 .f32 :=
  matmul dot_S256x256_S256x256_S256x256_1_0_0_1_n_n none σ (shapeCast S256x256 M shapeCasts_S1x256x256_S256x256)
    (constant S256x256 .f32 0x00000000#32)

theorem move_reals {σ : FVec Ideal S256x256 .f32} {f : ℕ → ℕ → ℝ} (hσ : Reals σ f)
    {M : Vec Ideal S1x256x256 .f32} {r : ℕ → ℕ} {ρ : ℕ → ℝ} (hM : Moves M r ρ) :
    Reals (move σ M) fun b k => f b (r k) * ρ k := by
  intro b k
  pointwise [move]
  have hr : r k < 256 := (hM k k).1
  rw [Finset.sum_eq_single ⟨r k, hr⟩]
  · rw [hσ b, (hM _ k).2, if_pos rfl, EReal.coe_mul]
  · intro x _ hx
    rw [(hM x k).2, if_neg fun h => hx (Fin.ext h), mul_zero]
  · intro h; exact absurd (Finset.mem_univ _) h

/-- Four states combined with products of two columns each. -/
def mix (ca sa cb sb : FVec Ideal S256x1 .f32) (s0 sA sB sC : FVec Ideal S256x256 .f32) : FVec Ideal S256x256 .f32 :=
  addf (addf (addf (mulf (broadcastTo S256x256 (mulf ca cb) broadcasts_S256x1_S256x256) s0)
    (mulf (broadcastTo S256x256 (mulf sa cb) broadcasts_S256x1_S256x256) sA))
    (mulf (broadcastTo S256x256 (mulf ca sb) broadcasts_S256x1_S256x256) sB))
    (mulf (broadcastTo S256x256 (mulf sa sb) broadcasts_S256x1_S256x256) sC)

theorem mix_reals {ca sa cb sb : FVec Ideal S256x1 .f32} {fca fsa fcb fsb : ℕ → ℕ → ℝ}
    (hca : Reals ca fca) (hsa : Reals sa fsa) (hcb : Reals cb fcb) (hsb : Reals sb fsb)
    {s0 sA sB sC : FVec Ideal S256x256 .f32} {f0 fA fB fC : ℕ → ℕ → ℝ}
    (h0 : Reals s0 f0) (hA : Reals sA fA) (hB : Reals sB fB) (hC : Reals sC fC) :
    Reals (mix ca sa cb sb s0 sA sB sC) fun b k =>
      fca b 0 * fcb b 0 * f0 b k + fsa b 0 * fcb b 0 * fA b k + fca b 0 * fsb b 0 * fB b k + fsa b 0 * fsb b 0 * fC b k := by
  intro b k
  pointwise [mix]
  rw [hca b 0, hsa b 0, hcb b 0, hsb b 0, h0 b k, hA b k, hB b k, hC b k]
  norm_cast

/-- Two rotations of the kernel, with the tables of the first qubit, the second, and both. -/
def pair (ca sa cb sb : FVec Ideal S256x1 .f32) (σ : FVec Ideal S256x256 .f32) (A B C : Vec Ideal S1x256x256 .f32) :
    FVec Ideal S256x256 .f32 :=
  mix ca sa cb sb σ (move σ A) (move σ B) (move σ C)

/-- The last two rotations of a layer together with its controlled flips. -/
def pairLast (ca sa cb sb : FVec Ideal S256x1 .f32) (σ : FVec Ideal S256x256 .f32) (T A B C : Vec Ideal S1x256x256 .f32) :
    FVec Ideal S256x256 .f32 :=
  mix ca sa cb sb (move σ T) (move σ A) (move σ B) (move σ C)

/-- The tables of two qubits whose bits have weights `a` and `b`, read where `t` sends a basis state. -/
structure Tables (a b : ℕ) (t : ℕ → ℕ) (A B C : Vec Ideal S1x256x256 .f32) : Prop where
  fst : Moves A (fun k => flip a (t k)) (fun k => sgn a (t k))
  snd : Moves B (fun k => flip b (t k)) (fun k => sgn b (t k))
  both : Moves C (fun k => flip a (flip b (t k))) (fun k => sgn a (flip b (t k)) * sgn b (t k))

theorem pair_reals {a b : ℕ} {ca sa cb sb : FVec Ideal S256x1 .f32} {fca fsa fcb fsb : ℕ → ℕ → ℝ}
    (hca : Reals ca fca) (hsa : Reals sa fsa) (hcb : Reals cb fcb) (hsb : Reals sb fsb)
    {σ : FVec Ideal S256x256 .f32} {f : ℕ → ℕ → ℝ} (hσ : Reals σ f)
    {A B C : Vec Ideal S1x256x256 .f32} (h : Tables a b id A B C) :
    Reals (pair ca sa cb sb σ A B C) fun i => ry b (fcb i 0) (fsb i 0) (ry a (fca i 0) (fsa i 0) (f i)) := by
  intro i k
  refine (mix_reals hca hsa hcb hsb hσ (move_reals hσ h.fst) (move_reals hσ h.snd) (move_reals hσ h.both) i k).trans ?_
  exact congrArg _ (ry_ry a b _ _ _ _ (f i) k)

theorem pairLast_reals {a b : ℕ} {t : ℕ → ℕ} {ca sa cb sb : FVec Ideal S256x1 .f32} {fca fsa fcb fsb : ℕ → ℕ → ℝ}
    (hca : Reals ca fca) (hsa : Reals sa fsa) (hcb : Reals cb fcb) (hsb : Reals sb fsb)
    {σ : FVec Ideal S256x256 .f32} {f : ℕ → ℕ → ℝ} (hσ : Reals σ f)
    {T A B C : Vec Ideal S1x256x256 .f32} (hT : Moves T t fun _ => 1) (h : Tables a b t A B C) :
    Reals (pairLast ca sa cb sb σ T A B C)
      fun i k => ry b (fcb i 0) (fsb i 0) (ry a (fca i 0) (fsa i 0) (f i)) (t k) := by
  intro i k
  refine (mix_reals hca hsa hcb hsb (move_reals hσ hT) (move_reals hσ h.fst) (move_reals hσ h.snd)
    (move_reals hσ h.both) i k).trans ?_
  simp only [mul_one]
  exact congrArg _ (ry_ry a b _ _ _ _ (f i) (t k))

/-- Column `q` of the block's cosines or sines. -/
def col (q : ℕ) (h : S256x8.Slices ![0, q] S256x1) (v : FVec Ideal S256x8 .f32) : FVec Ideal S256x1 .f32 :=
  extractStridedSlice S256x1 ![0, q] v h

theorem col_reals {v : FVec Ideal S256x8 .f32} {f : ℕ → ℕ → ℝ} (hv : Reals v f) (q : Fin 8)
    (h : S256x8.Slices ![0, q] S256x1) : Reals (col q h v) fun b _ => f b q := by
  intro b j
  have hj : j = 0 := Subsingleton.elim _ _
  subst hj
  refine Eq.trans ?_ (hv b q)
  pointwise [col]

/-- A layer of the kernel, from the block's cosines `c` and sines `s`, with the thirteen tables. -/
def kernelLayer (c s : FVec Ideal S256x8 .f32) (σ : FVec Ideal S256x256 .f32) (M : Fin 13 → FVec Ideal S1x256x256 .f32) :
    FVec Ideal S256x256 .f32 :=
  pairLast (col 6 slices_S256x8_o0_6_S256x1 c) (col 6 slices_S256x8_o0_6_S256x1 s)
    (col 7 slices_S256x8_o0_7_S256x1 c) (col 7 slices_S256x8_o0_7_S256x1 s)
    (pair (col 4 slices_S256x8_o0_4_S256x1 c) (col 4 slices_S256x8_o0_4_S256x1 s)
      (col 5 slices_S256x8_o0_5_S256x1 c) (col 5 slices_S256x8_o0_5_S256x1 s)
      (pair (col 2 slices_S256x8_o0_2_S256x1 c) (col 2 slices_S256x8_o0_2_S256x1 s)
        (col 3 slices_S256x8_o0_3_S256x1 c) (col 3 slices_S256x8_o0_3_S256x1 s)
        (pair (col 0 slices_S256x8_o0_0_S256x1 c) (col 0 slices_S256x8_o0_0_S256x1 s)
          (col 1 slices_S256x8_o0_1_S256x1 c) (col 1 slices_S256x8_o0_1_S256x1 s) σ (M 0) (M 1) (M 2))
        (M 3) (M 4) (M 5)) (M 6) (M 7) (M 8)) (M 9) (M 10) (M 11) (M 12)

/-- The thirteen tables. -/
structure AllTables (M : Fin 13 → FVec Ideal S1x256x256 .f32) : Prop where
  first : Tables 128 64 id (M 0) (M 1) (M 2)
  second : Tables 32 16 id (M 3) (M 4) (M 5)
  third : Tables 8 4 id (M 6) (M 7) (M 8)
  flips : Moves (M 9) chain fun _ => 1
  last : Tables 2 1 chain (M 10) (M 11) (M 12)

theorem kernelLayer_reals {c s : FVec Ideal S256x8 .f32} {α : ℕ → ℕ → ℝ} (hc : Reals c fun b q => Real.cos (α b q))
    (hs : Reals s fun b q => Real.sin (α b q)) {σ : FVec Ideal S256x256 .f32} {f : ℕ → ℕ → ℝ} (hσ : Reals σ f)
    {M : Fin 13 → FVec Ideal S1x256x256 .f32} (h : AllTables M) :
    Reals (kernelLayer c s σ M) fun b => layer (α b) (f b) :=
  pairLast_reals (col_reals hc 6 _) (col_reals hs 6 _) (col_reals hc 7 _) (col_reals hs 7 _)
    (pair_reals (col_reals hc 4 _) (col_reals hs 4 _) (col_reals hc 5 _) (col_reals hs 5 _)
      (pair_reals (col_reals hc 2 _) (col_reals hs 2 _) (col_reals hc 3 _) (col_reals hs 3 _)
        (pair_reals (col_reals hc 0 _) (col_reals hs 0 _) (col_reals hc 1 _) (col_reals hs 1 _) hσ h.first)
        h.second) h.third) h.flips h.last

/-! ## The kernel's three layers are this one -/

section
variable (σ z : FVec Ideal S256x256 .f32) (v182 v185 v195 c s : FVec Ideal S256x8 .f32) (v189 v192 : FVec Ideal S3x8 .f32)
  (v196 : FVec Ideal S1x8 .f32) (M : Fin 13 → FVec Ideal S1x256x256 .f32)

/-- The first layer. -/
theorem layer_first (h30 : k0_pay30 v185 v195 v196 = c) (h31 : k0_pay31 v182 v185 v189 v192 = s)
    (σ₁ : FVec Ideal S256x256 .f32) (h : k0_pay32 σ v182 v185 v189 v192 v195 v196 (M 0) (M 1) (M 2) = σ₁)
    (c2 s2 c3 s3 : FVec Ideal S256x1 .f32)
    (e0 : k0_pay33 v185 v195 v196 = c2) (e1 : k0_pay34 v182 v185 v189 v192 = s2)
    (e2 : k0_pay35 v185 v195 v196 = c3) (e3 : k0_pay36 v182 v185 v189 v192 = s3) (T : FVec Ideal S256x256 .f32)
    (e4 : k0_pay37 (M 3) = T) :
    k0_pay48 c s (k0_pay39 c) (k0_pay40 s) (k0_pay42 s)
      (k0_pay43 σ₁ c2 s2 c3 s3 T (constant S256x256 .f32 0x00000000#32) (M 4) (M 5) (M 6))
      (k0_pay44 σ₁ c2 s2 c3 s3 T (constant S256x256 .f32 0x00000000#32) (M 4) (M 5) (M 7))
      (k0_pay45 σ₁ c2 s2 c3 s3 T (constant S256x256 .f32 0x00000000#32) (M 4) (M 5) (M 8))
      (k0_pay46 c σ₁ c2 s2 c3 s3 T (constant S256x256 .f32 0x00000000#32) (M 4) (M 5)) (k0_pay47 c s)
      (M 9) (M 10) (M 11) (M 12)
    = kernelLayer c s σ M := by
  subst h30 h31 h e0 e1 e2 e3 e4
  rfl

/-- The second layer. -/
theorem layer_second (v324 : FVec Ideal S256x8 .f32) (h50 : k0_pay50 v185 v192 v324 = c) (h51 : k0_pay51 v182 v185 v189 v192 = s)
    (σ₁ : FVec Ideal S256x256 .f32) (h : k0_pay52 v182 v185 v189 v192 σ v324 (M 0) (M 1) (M 2) = σ₁)
    (c2 s2 c3 s3 : FVec Ideal S256x1 .f32)
    (e0 : k0_pay53 v185 v192 v324 = c2) (e1 : k0_pay54 v182 v185 v189 v192 = s2)
    (e2 : k0_pay55 v185 v192 v324 = c3) (e3 : k0_pay56 v182 v185 v189 v192 = s3) (T : FVec Ideal S256x256 .f32)
    (e4 : k0_pay57 (M 3) = T) :
    k0_pay68 c s (k0_pay59 c) (k0_pay60 s) (k0_pay62 s)
      (k0_pay63 σ₁ c2 s2 c3 s3 T (M 4) (M 5) (M 6)) (k0_pay64 σ₁ c2 s2 c3 s3 T (M 4) (M 5) (M 7))
      (k0_pay65 σ₁ c2 s2 c3 s3 T (M 4) (M 5) (M 8)) (k0_pay66 c σ₁ c2 s2 c3 s3 T (M 4) (M 5)) (k0_pay67 c s)
      (M 9) (M 10) (M 11) (M 12)
    = kernelLayer c s σ M := by
  subst h50 h51 h e0 e1 e2 e3 e4
  rfl

/-- The third layer; the kernel squares the amplitudes it leaves. -/
theorem layer_third (v452 : FVec Ideal S256x8 .f32) (h70 : k0_pay70 v182 v185 v192 v452 = c) (h71 : k0_pay71 v182 v185 v189 v192 = s)
    (σ₁ : FVec Ideal S256x256 .f32) (h : k0_pay72 v182 v185 v189 v192 σ v452 (M 0) (M 1) (M 2) = σ₁)
    (c2 s2 c3 s3 : FVec Ideal S256x1 .f32)
    (e0 : k0_pay73 v182 v185 v192 v452 = c2) (e1 : k0_pay74 v182 v185 v189 v192 = s2)
    (e2 : k0_pay75 v182 v185 v192 v452 = c3) (e3 : k0_pay76 v182 v185 v189 v192 = s3) :
    k0_pay86 c s (k0_pay78 c) (k0_pay79 s) (k0_pay80 c) (k0_pay81 s)
      (k0_pay82 σ₁ c2 s2 c3 s3 (M 3) (M 4) (M 5) (M 6)) (k0_pay83 σ₁ c2 s2 c3 s3 (M 3) (M 4) (M 5) (M 7))
      (k0_pay84 σ₁ c2 s2 c3 s3 (M 3) (M 4) (M 5) (M 8)) (k0_pay85 c σ₁ c2 s2 c3 s3 (M 3) (M 4) (M 5))
      (M 9) (M 10) (M 11) (M 12)
    = mulf (kernelLayer c s σ M) (kernelLayer c s σ M) := by
  subst h70 h71 h e0 e1 e2 e3
  rfl

end

end Cert.Proof

end
-- ==== Proof.RefCircuit.lean ====
/- The reference's circuit on 2048 rows, step by step, read as a circuit on real amplitudes. -/
module

public import proofs.«01_k».proof.Proof.Gen.ReferenceIdeal
public import proofs.«01_k».proof.Proof.KernelCircuit
public import proofs.«01_k».proof.Proof.Net

@[expose] public section

noncomputable section

namespace Cert.Proof

open Idealize.ShloMosaic Cert.ReferenceIdeal Cert.ReferenceIdeal.Gen Cert.Net

/-- The entries of a rotation with cosine `c` and sine `s`. -/
def gate (c s : ℝ) (i j : ℕ) : ℝ := if i = 0 then if j = 0 then c else -s else if j = 0 then s else c

/-- A table of rotations, one for each row and qubit. -/
def Gates (g : FVec Ideal S2048x8x2x2 .f32) (c s : ℕ → ℕ → ℝ) : Prop :=
  ∀ (b : Fin 2048) (q : Fin 8) (i j : Fin 2), g (ix4 b q i j) = ((gate (c b q) (s b q) i j : ℝ) : EReal)

/-- The two amplitudes of a pair, combined with a row of a rotation. -/
theorem ry_gate (r : ℕ) (c s : ℝ) (f : ℕ → ℝ) (k i a b : ℕ) (hi : i = k / r % 2) (h0 : k / r % 2 = 0 → a = k ∧ b = k + r)
    (h1 : ¬ k / r % 2 = 0 → a = k - r ∧ b = k) :
    f a * gate c s i 0 + f b * gate c s i 1 = ry r c s f k := by
  subst hi
  unfold ry sgn Net.flip gate
  by_cases h : k / r % 2 = 0
  · obtain ⟨rfl, rfl⟩ := h0 h
    simp only [h, if_true, one_ne_zero, if_false]
    ring
  · obtain ⟨ha, hb⟩ := h1 h
    rw [ha, hb]
    simp only [h, if_true, one_ne_zero, if_false]
    ring

/-- The rotation of qubit 0, whose bit has weight 128. -/
def rotate0 (g : FVec Ideal S2048x8x2x2 .f32) (σ : FVec Ideal S2048x256 .f32) : FVec Ideal S2048x256 .f32 :=
  shapeCast _ (transpose S2048x1x2x128 [0, 1, 3, 2] (Host.dotGeneral dot_S2048x1x2x128_S2048x2x2_S2048x1x128x2_2_2_13_1_0_0 none
    (shapeCast _ σ shapeCasts_S2048x256_S2048x1x2x128)
    (shapeCast _ (extractStridedSlice S2048x1x2x2 ![0, 0, 0, 0] g slices_S2048x8x2x2_S2048x1x2x2_0_0_0_0) shapeCasts_S2048x1x2x2_S2048x2x2))
    transposes_S2048x1x128x2_S2048x1x2x128_0_1_3_2) shapeCasts_S2048x1x2x128_S2048x256

theorem rotate0_reals {g : FVec Ideal S2048x8x2x2 .f32} {c s : ℕ → ℕ → ℝ} (hg : Gates g c s) {σ : FVec Ideal S2048x256 .f32}
    {f : ℕ → ℕ → ℝ} (hσ : Reals σ f) : Reals (rotate0 g σ) fun b => ry 128 (c b 0) (s b 0) (f b) := by
  intro b k
  pointwise [rotate0]
  refine (Fin.sum_univ_two (M := EReal) _).trans ?_
  rw [hσ b, hσ b, hg b, hg b, ← EReal.coe_mul, ← EReal.coe_mul, ← EReal.coe_add]
  refine congrArg _ (ry_gate 128 (c b 0) (s b 0) (f b) k _ _ _ ?_ ?_ ?_)
  all_goals
    simp only [Fin.isValue, Fin.val_zero, Fin.val_one] <;> omega

/-- The rotation of qubit 1, whose bit has weight 64. -/
def rotate1 (g : FVec Ideal S2048x8x2x2 .f32) (σ : FVec Ideal S2048x256 .f32) : FVec Ideal S2048x256 .f32 :=
  shapeCast _ (transpose S2048x2x2x64 [0, 1, 3, 2] (Host.dotGeneral dot_S2048x2x2x64_S2048x2x2_S2048x2x64x2_2_2_13_1_0_0 none
    (shapeCast _ σ shapeCasts_S2048x256_S2048x2x2x64)
    (shapeCast _ (extractStridedSlice S2048x1x2x2 ![0, 1, 0, 0] g slices_S2048x8x2x2_S2048x1x2x2_0_1_0_0) shapeCasts_S2048x1x2x2_S2048x2x2))
    transposes_S2048x2x64x2_S2048x2x2x64_0_1_3_2) shapeCasts_S2048x2x2x64_S2048x256

theorem rotate1_reals {g : FVec Ideal S2048x8x2x2 .f32} {c s : ℕ → ℕ → ℝ} (hg : Gates g c s) {σ : FVec Ideal S2048x256 .f32}
    {f : ℕ → ℕ → ℝ} (hσ : Reals σ f) : Reals (rotate1 g σ) fun b => ry 64 (c b 1) (s b 1) (f b) := by
  intro b k
  pointwise [rotate1]
  refine (Fin.sum_univ_two (M := EReal) _).trans ?_
  rw [hσ b, hσ b, hg b, hg b, ← EReal.coe_mul, ← EReal.coe_mul, ← EReal.coe_add]
  refine congrArg _ (ry_gate 64 (c b 1) (s b 1) (f b) k _ _ _ ?_ ?_ ?_)
  all_goals
    simp only [Fin.isValue, Fin.val_zero, Fin.val_one] <;> omega

/-- The rotation of qubit 2, whose bit has weight 32. -/
def rotate2 (g : FVec Ideal S2048x8x2x2 .f32) (σ : FVec Ideal S2048x256 .f32) : FVec Ideal S2048x256 .f32 :=
  shapeCast _ (transpose S2048x4x2x32 [0, 1, 3, 2] (Host.dotGeneral dot_S2048x4x2x32_S2048x2x2_S2048x4x32x2_2_2_13_1_0_0 none
    (shapeCast _ σ shapeCasts_S2048x256_S2048x4x2x32)
    (shapeCast _ (extractStridedSlice S2048x1x2x2 ![0, 2, 0, 0] g slices_S2048x8x2x2_S2048x1x2x2_0_2_0_0) shapeCasts_S2048x1x2x2_S2048x2x2))
    transposes_S2048x4x32x2_S2048x4x2x32_0_1_3_2) shapeCasts_S2048x4x2x32_S2048x256

theorem rotate2_reals {g : FVec Ideal S2048x8x2x2 .f32} {c s : ℕ → ℕ → ℝ} (hg : Gates g c s) {σ : FVec Ideal S2048x256 .f32}
    {f : ℕ → ℕ → ℝ} (hσ : Reals σ f) : Reals (rotate2 g σ) fun b => ry 32 (c b 2) (s b 2) (f b) := by
  intro b k
  pointwise [rotate2]
  refine (Fin.sum_univ_two (M := EReal) _).trans ?_
  rw [hσ b, hσ b, hg b, hg b, ← EReal.coe_mul, ← EReal.coe_mul, ← EReal.coe_add]
  refine congrArg _ (ry_gate 32 (c b 2) (s b 2) (f b) k _ _ _ ?_ ?_ ?_)
  all_goals
    simp only [Fin.isValue, Fin.val_zero, Fin.val_one] <;> omega

/-- The rotation of qubit 3, whose bit has weight 16. -/
def rotate3 (g : FVec Ideal S2048x8x2x2 .f32) (σ : FVec Ideal S2048x256 .f32) : FVec Ideal S2048x256 .f32 :=
  shapeCast _ (transpose S2048x8x2x16 [0, 1, 3, 2] (Host.dotGeneral dot_S2048x8x2x16_S2048x2x2_S2048x8x16x2_2_2_13_1_0_0 none
    (shapeCast _ σ shapeCasts_S2048x256_S2048x8x2x16)
    (shapeCast _ (extractStridedSlice S2048x1x2x2 ![0, 3, 0, 0] g slices_S2048x8x2x2_S2048x1x2x2_0_3_0_0) shapeCasts_S2048x1x2x2_S2048x2x2))
    transposes_S2048x8x16x2_S2048x8x2x16_0_1_3_2) shapeCasts_S2048x8x2x16_S2048x256

theorem rotate3_reals {g : FVec Ideal S2048x8x2x2 .f32} {c s : ℕ → ℕ → ℝ} (hg : Gates g c s) {σ : FVec Ideal S2048x256 .f32}
    {f : ℕ → ℕ → ℝ} (hσ : Reals σ f) : Reals (rotate3 g σ) fun b => ry 16 (c b 3) (s b 3) (f b) := by
  intro b k
  pointwise [rotate3]
  refine (Fin.sum_univ_two (M := EReal) _).trans ?_
  rw [hσ b, hσ b, hg b, hg b, ← EReal.coe_mul, ← EReal.coe_mul, ← EReal.coe_add]
  refine congrArg _ (ry_gate 16 (c b 3) (s b 3) (f b) k _ _ _ ?_ ?_ ?_)
  all_goals
    simp only [Fin.isValue, Fin.val_zero, Fin.val_one] <;> omega

/-- The rotation of qubit 4, whose bit has weight 8. -/
def rotate4 (g : FVec Ideal S2048x8x2x2 .f32) (σ : FVec Ideal S2048x256 .f32) : FVec Ideal S2048x256 .f32 :=
  shapeCast _ (transpose S2048x16x2x8 [0, 1, 3, 2] (Host.dotGeneral dot_S2048x16x2x8_S2048x2x2_S2048x16x8x2_2_2_13_1_0_0 none
    (shapeCast _ σ shapeCasts_S2048x256_S2048x16x2x8)
    (shapeCast _ (extractStridedSlice S2048x1x2x2 ![0, 4, 0, 0] g slices_S2048x8x2x2_S2048x1x2x2_0_4_0_0) shapeCasts_S2048x1x2x2_S2048x2x2))
    transposes_S2048x16x8x2_S2048x16x2x8_0_1_3_2) shapeCasts_S2048x16x2x8_S2048x256

theorem rotate4_reals {g : FVec Ideal S2048x8x2x2 .f32} {c s : ℕ → ℕ → ℝ} (hg : Gates g c s) {σ : FVec Ideal S2048x256 .f32}
    {f : ℕ → ℕ → ℝ} (hσ : Reals σ f) : Reals (rotate4 g σ) fun b => ry 8 (c b 4) (s b 4) (f b) := by
  intro b k
  pointwise [rotate4]
  refine (Fin.sum_univ_two (M := EReal) _).trans ?_
  rw [hσ b, hσ b, hg b, hg b, ← EReal.coe_mul, ← EReal.coe_mul, ← EReal.coe_add]
  refine congrArg _ (ry_gate 8 (c b 4) (s b 4) (f b) k _ _ _ ?_ ?_ ?_)
  all_goals
    simp only [Fin.isValue, Fin.val_zero, Fin.val_one] <;> omega

/-- The rotation of qubit 5, whose bit has weight 4. -/
def rotate5 (g : FVec Ideal S2048x8x2x2 .f32) (σ : FVec Ideal S2048x256 .f32) : FVec Ideal S2048x256 .f32 :=
  shapeCast _ (transpose S2048x32x2x4 [0, 1, 3, 2] (Host.dotGeneral dot_S2048x32x2x4_S2048x2x2_S2048x32x4x2_2_2_13_1_0_0 none
    (shapeCast _ σ shapeCasts_S2048x256_S2048x32x2x4)
    (shapeCast _ (extractStridedSlice S2048x1x2x2 ![0, 5, 0, 0] g slices_S2048x8x2x2_S2048x1x2x2_0_5_0_0) shapeCasts_S2048x1x2x2_S2048x2x2))
    transposes_S2048x32x4x2_S2048x32x2x4_0_1_3_2) shapeCasts_S2048x32x2x4_S2048x256

theorem rotate5_reals {g : FVec Ideal S2048x8x2x2 .f32} {c s : ℕ → ℕ → ℝ} (hg : Gates g c s) {σ : FVec Ideal S2048x256 .f32}
    {f : ℕ → ℕ → ℝ} (hσ : Reals σ f) : Reals (rotate5 g σ) fun b => ry 4 (c b 5) (s b 5) (f b) := by
  intro b k
  pointwise [rotate5]
  refine (Fin.sum_univ_two (M := EReal) _).trans ?_
  rw [hσ b, hσ b, hg b, hg b, ← EReal.coe_mul, ← EReal.coe_mul, ← EReal.coe_add]
  refine congrArg _ (ry_gate 4 (c b 5) (s b 5) (f b) k _ _ _ ?_ ?_ ?_)
  all_goals
    simp only [Fin.isValue, Fin.val_zero, Fin.val_one] <;> omega

/-- The rotation of qubit 6, whose bit has weight 2. -/
def rotate6 (g : FVec Ideal S2048x8x2x2 .f32) (σ : FVec Ideal S2048x256 .f32) : FVec Ideal S2048x256 .f32 :=
  shapeCast _ (transpose S2048x64x2x2 [0, 1, 3, 2] (Host.dotGeneral dot_S2048x64x2x2_S2048x2x2_S2048x64x2x2_2_2_13_1_0_0 none
    (shapeCast _ σ shapeCasts_S2048x256_S2048x64x2x2)
    (shapeCast _ (extractStridedSlice S2048x1x2x2 ![0, 6, 0, 0] g slices_S2048x8x2x2_S2048x1x2x2_0_6_0_0) shapeCasts_S2048x1x2x2_S2048x2x2))
    transposes_S2048x64x2x2_S2048x64x2x2_0_1_3_2) shapeCasts_S2048x64x2x2_S2048x256

theorem rotate6_reals {g : FVec Ideal S2048x8x2x2 .f32} {c s : ℕ → ℕ → ℝ} (hg : Gates g c s) {σ : FVec Ideal S2048x256 .f32}
    {f : ℕ → ℕ → ℝ} (hσ : Reals σ f) : Reals (rotate6 g σ) fun b => ry 2 (c b 6) (s b 6) (f b) := by
  intro b k
  pointwise [rotate6]
  refine (Fin.sum_univ_two (M := EReal) _).trans ?_
  rw [hσ b, hσ b, hg b, hg b, ← EReal.coe_mul, ← EReal.coe_mul, ← EReal.coe_add]
  refine congrArg _ (ry_gate 2 (c b 6) (s b 6) (f b) k _ _ _ ?_ ?_ ?_)
  all_goals
    simp only [Fin.isValue, Fin.val_zero, Fin.val_one] <;> omega

/-- The rotation of qubit 7, whose bit has weight 1. -/
def rotate7 (g : FVec Ideal S2048x8x2x2 .f32) (σ : FVec Ideal S2048x256 .f32) : FVec Ideal S2048x256 .f32 :=
  shapeCast _ (transpose S2048x128x2x1 [0, 1, 3, 2] (Host.dotGeneral dot_S2048x128x2x1_S2048x2x2_S2048x128x1x2_2_2_13_1_0_0 none
    (shapeCast _ σ shapeCasts_S2048x256_S2048x128x2x1)
    (shapeCast _ (extractStridedSlice S2048x1x2x2 ![0, 7, 0, 0] g slices_S2048x8x2x2_S2048x1x2x2_0_7_0_0) shapeCasts_S2048x1x2x2_S2048x2x2))
    transposes_S2048x128x1x2_S2048x128x2x1_0_1_3_2) shapeCasts_S2048x128x2x1_S2048x256

theorem rotate7_reals {g : FVec Ideal S2048x8x2x2 .f32} {c s : ℕ → ℕ → ℝ} (hg : Gates g c s) {σ : FVec Ideal S2048x256 .f32}
    {f : ℕ → ℕ → ℝ} (hσ : Reals σ f) : Reals (rotate7 g σ) fun b => ry 1 (c b 7) (s b 7) (f b) := by
  intro b k
  pointwise [rotate7]
  refine (Fin.sum_univ_two (M := EReal) _).trans ?_
  rw [hσ b, hσ b, hg b, hg b, ← EReal.coe_mul, ← EReal.coe_mul, ← EReal.coe_add]
  refine congrArg _ (ry_gate 1 (c b 7) (s b 7) (f b) k _ _ _ ?_ ?_ ?_)
  all_goals
    simp only [Fin.isValue, Fin.val_zero, Fin.val_one] <;> omega

/-- The flip of qubit 1, whose bit has weight 64, where qubit 0 is set. -/
def flipIf0 (σ : FVec Ideal S2048x256 .f32) : FVec Ideal S2048x256 .f32 :=
  shapeCast _ (concatenate S2048x1x2x2x64 2 [⟨S2048x1x1x2x64, (extractStridedSlice S2048x1x1x2x64 ![0, 0, 0, 0, 0]
      (shapeCast _ σ shapeCasts_S2048x256_S2048x1x2x2x64) slices_S2048x1x2x2x64_S2048x1x1x2x64_0_0_0_0_0)⟩,
    ⟨S2048x1x1x2x64, (Host.reverse [3] (extractStridedSlice S2048x1x1x2x64 ![0, 0, 1, 0, 0]
      (shapeCast _ σ shapeCasts_S2048x256_S2048x1x2x2x64) slices_S2048x1x2x2x64_S2048x1x1x2x64_0_0_1_0_0))⟩]
    concatenates_S2048x1x1x2x64_S2048x1x1x2x64_S2048x1x2x2x64_d2) shapeCasts_S2048x1x2x2x64_S2048x256

theorem flipIf0_reals {σ : FVec Ideal S2048x256 .f32} {f : ℕ → ℕ → ℝ} (hσ : Reals σ f) :
    Reals (flipIf0 σ) fun b k => f b (cflip 64 k) := by
  intro b k
  pointwise [flipIf0]
  split
  · rw [hσ b]
    exact congrArg _ (congrArg _ (by unfold cflip; rw [if_pos (by omega)]))
  · refine (hσ b ⟨128 + (2 - (k.val / 64 % 2 + 1)) * 64 + k.val % 64, by omega⟩).trans ?_
    refine congrArg _ (congrArg _ ?_)
    unfold cflip Net.flip
    dsimp only
    rw [if_neg (by omega)]
    split <;> omega

/-- The flip of qubit 2, whose bit has weight 32, where qubit 1 is set. -/
def flipIf1 (σ : FVec Ideal S2048x256 .f32) : FVec Ideal S2048x256 .f32 :=
  shapeCast _ (concatenate S2048x2x2x2x32 2 [⟨S2048x2x1x2x32, (extractStridedSlice S2048x2x1x2x32 ![0, 0, 0, 0, 0]
      (shapeCast _ σ shapeCasts_S2048x256_S2048x2x2x2x32) slices_S2048x2x2x2x32_S2048x2x1x2x32_0_0_0_0_0)⟩,
    ⟨S2048x2x1x2x32, (Host.reverse [3] (extractStridedSlice S2048x2x1x2x32 ![0, 0, 1, 0, 0]
      (shapeCast _ σ shapeCasts_S2048x256_S2048x2x2x2x32) slices_S2048x2x2x2x32_S2048x2x1x2x32_0_0_1_0_0))⟩]
    concatenates_S2048x2x1x2x32_S2048x2x1x2x32_S2048x2x2x2x32_d2) shapeCasts_S2048x2x2x2x32_S2048x256

theorem flipIf1_reals {σ : FVec Ideal S2048x256 .f32} {f : ℕ → ℕ → ℝ} (hσ : Reals σ f) :
    Reals (flipIf1 σ) fun b k => f b (cflip 32 k) := by
  intro b k
  pointwise [flipIf1]
  split
  · rw [hσ b]
    exact congrArg _ (congrArg _ (by unfold cflip; rw [if_pos (by omega)]))
  · refine (hσ b ⟨k.val / 128 * 128 + 64 + (2 - (k.val / 32 % 2 + 1)) * 32 + k.val % 32, by omega⟩).trans ?_
    refine congrArg _ (congrArg _ ?_)
    unfold cflip Net.flip
    dsimp only
    rw [if_neg (by omega)]
    split <;> omega

/-- The flip of qubit 3, whose bit has weight 16, where qubit 2 is set. -/
def flipIf2 (σ : FVec Ideal S2048x256 .f32) : FVec Ideal S2048x256 .f32 :=
  shapeCast _ (concatenate S2048x4x2x2x16 2 [⟨S2048x4x1x2x16, (extractStridedSlice S2048x4x1x2x16 ![0, 0, 0, 0, 0]
      (shapeCast _ σ shapeCasts_S2048x256_S2048x4x2x2x16) slices_S2048x4x2x2x16_S2048x4x1x2x16_0_0_0_0_0)⟩,
    ⟨S2048x4x1x2x16, (Host.reverse [3] (extractStridedSlice S2048x4x1x2x16 ![0, 0, 1, 0, 0]
      (shapeCast _ σ shapeCasts_S2048x256_S2048x4x2x2x16) slices_S2048x4x2x2x16_S2048x4x1x2x16_0_0_1_0_0))⟩]
    concatenates_S2048x4x1x2x16_S2048x4x1x2x16_S2048x4x2x2x16_d2) shapeCasts_S2048x4x2x2x16_S2048x256

theorem flipIf2_reals {σ : FVec Ideal S2048x256 .f32} {f : ℕ → ℕ → ℝ} (hσ : Reals σ f) :
    Reals (flipIf2 σ) fun b k => f b (cflip 16 k) := by
  intro b k
  pointwise [flipIf2]
  split
  · rw [hσ b]
    exact congrArg _ (congrArg _ (by unfold cflip; rw [if_pos (by omega)]))
  · refine (hσ b ⟨k.val / 64 * 64 + 32 + (2 - (k.val / 16 % 2 + 1)) * 16 + k.val % 16, by omega⟩).trans ?_
    refine congrArg _ (congrArg _ ?_)
    unfold cflip Net.flip
    dsimp only
    rw [if_neg (by omega)]
    split <;> omega

/-- The flip of qubit 4, whose bit has weight 8, where qubit 3 is set. -/
def flipIf3 (σ : FVec Ideal S2048x256 .f32) : FVec Ideal S2048x256 .f32 :=
  shapeCast _ (concatenate S2048x8x2x2x8 2 [⟨S2048x8x1x2x8, (extractStridedSlice S2048x8x1x2x8 ![0, 0, 0, 0, 0]
      (shapeCast _ σ shapeCasts_S2048x256_S2048x8x2x2x8) slices_S2048x8x2x2x8_S2048x8x1x2x8_0_0_0_0_0)⟩,
    ⟨S2048x8x1x2x8, (Host.reverse [3] (extractStridedSlice S2048x8x1x2x8 ![0, 0, 1, 0, 0]
      (shapeCast _ σ shapeCasts_S2048x256_S2048x8x2x2x8) slices_S2048x8x2x2x8_S2048x8x1x2x8_0_0_1_0_0))⟩]
    concatenates_S2048x8x1x2x8_S2048x8x1x2x8_S2048x8x2x2x8_d2) shapeCasts_S2048x8x2x2x8_S2048x256

theorem flipIf3_reals {σ : FVec Ideal S2048x256 .f32} {f : ℕ → ℕ → ℝ} (hσ : Reals σ f) :
    Reals (flipIf3 σ) fun b k => f b (cflip 8 k) := by
  intro b k
  pointwise [flipIf3]
  split
  · rw [hσ b]
    exact congrArg _ (congrArg _ (by unfold cflip; rw [if_pos (by omega)]))
  · refine (hσ b ⟨k.val / 32 * 32 + 16 + (2 - (k.val / 8 % 2 + 1)) * 8 + k.val % 8, by omega⟩).trans ?_
    refine congrArg _ (congrArg _ ?_)
    unfold cflip Net.flip
    dsimp only
    rw [if_neg (by omega)]
    split <;> omega

/-- The flip of qubit 5, whose bit has weight 4, where qubit 4 is set. -/
def flipIf4 (σ : FVec Ideal S2048x256 .f32) : FVec Ideal S2048x256 .f32 :=
  shapeCast _ (concatenate S2048x16x2x2x4 2 [⟨S2048x16x1x2x4, (extractStridedSlice S2048x16x1x2x4 ![0, 0, 0, 0, 0]
      (shapeCast _ σ shapeCasts_S2048x256_S2048x16x2x2x4) slices_S2048x16x2x2x4_S2048x16x1x2x4_0_0_0_0_0)⟩,
    ⟨S2048x16x1x2x4, (Host.reverse [3] (extractStridedSlice S2048x16x1x2x4 ![0, 0, 1, 0, 0]
      (shapeCast _ σ shapeCasts_S2048x256_S2048x16x2x2x4) slices_S2048x16x2x2x4_S2048x16x1x2x4_0_0_1_0_0))⟩]
    concatenates_S2048x16x1x2x4_S2048x16x1x2x4_S2048x16x2x2x4_d2) shapeCasts_S2048x16x2x2x4_S2048x256

theorem flipIf4_reals {σ : FVec Ideal S2048x256 .f32} {f : ℕ → ℕ → ℝ} (hσ : Reals σ f) :
    Reals (flipIf4 σ) fun b k => f b (cflip 4 k) := by
  intro b k
  pointwise [flipIf4]
  split
  · rw [hσ b]
    exact congrArg _ (congrArg _ (by unfold cflip; rw [if_pos (by omega)]))
  · refine (hσ b ⟨k.val / 16 * 16 + 8 + (2 - (k.val / 4 % 2 + 1)) * 4 + k.val % 4, by omega⟩).trans ?_
    refine congrArg _ (congrArg _ ?_)
    unfold cflip Net.flip
    dsimp only
    rw [if_neg (by omega)]
    split <;> omega

/-- The flip of qubit 6, whose bit has weight 2, where qubit 5 is set. -/
def flipIf5 (σ : FVec Ideal S2048x256 .f32) : FVec Ideal S2048x256 .f32 :=
  shapeCast _ (concatenate S2048x32x2x2x2 2 [⟨S2048x32x1x2x2, (extractStridedSlice S2048x32x1x2x2 ![0, 0, 0, 0, 0]
      (shapeCast _ σ shapeCasts_S2048x256_S2048x32x2x2x2) slices_S2048x32x2x2x2_S2048x32x1x2x2_0_0_0_0_0)⟩,
    ⟨S2048x32x1x2x2, (Host.reverse [3] (extractStridedSlice S2048x32x1x2x2 ![0, 0, 1, 0, 0]
      (shapeCast _ σ shapeCasts_S2048x256_S2048x32x2x2x2) slices_S2048x32x2x2x2_S2048x32x1x2x2_0_0_1_0_0))⟩]
    concatenates_S2048x32x1x2x2_S2048x32x1x2x2_S2048x32x2x2x2_d2) shapeCasts_S2048x32x2x2x2_S2048x256

theorem flipIf5_reals {σ : FVec Ideal S2048x256 .f32} {f : ℕ → ℕ → ℝ} (hσ : Reals σ f) :
    Reals (flipIf5 σ) fun b k => f b (cflip 2 k) := by
  intro b k
  pointwise [flipIf5]
  split
  · rw [hσ b]
    exact congrArg _ (congrArg _ (by unfold cflip; rw [if_pos (by omega)]))
  · refine (hσ b ⟨k.val / 8 * 8 + 4 + (2 - (k.val / 2 % 2 + 1)) * 2 + k.val % 2, by omega⟩).trans ?_
    refine congrArg _ (congrArg _ ?_)
    unfold cflip Net.flip
    dsimp only
    rw [if_neg (by omega)]
    split <;> omega

/-- The flip of qubit 7, whose bit has weight 1, where qubit 6 is set. -/
def flipIf6 (σ : FVec Ideal S2048x256 .f32) : FVec Ideal S2048x256 .f32 :=
  shapeCast _ (concatenate S2048x64x2x2x1 2 [⟨S2048x64x1x2x1, (extractStridedSlice S2048x64x1x2x1 ![0, 0, 0, 0, 0]
      (shapeCast _ σ shapeCasts_S2048x256_S2048x64x2x2x1) slices_S2048x64x2x2x1_S2048x64x1x2x1_0_0_0_0_0)⟩,
    ⟨S2048x64x1x2x1, (Host.reverse [3] (extractStridedSlice S2048x64x1x2x1 ![0, 0, 1, 0, 0]
      (shapeCast _ σ shapeCasts_S2048x256_S2048x64x2x2x1) slices_S2048x64x2x2x1_S2048x64x1x2x1_0_0_1_0_0))⟩]
    concatenates_S2048x64x1x2x1_S2048x64x1x2x1_S2048x64x2x2x1_d2) shapeCasts_S2048x64x2x2x1_S2048x256

theorem flipIf6_reals {σ : FVec Ideal S2048x256 .f32} {f : ℕ → ℕ → ℝ} (hσ : Reals σ f) :
    Reals (flipIf6 σ) fun b k => f b (cflip 1 k) := by
  intro b k
  pointwise [flipIf6]
  split
  · rw [hσ b]
    exact congrArg _ (congrArg _ (by unfold cflip; rw [if_pos (by omega)]))
  · refine (hσ b ⟨k.val / 4 * 4 + 2 + (2 - (k.val % 2 + 1)), by omega⟩).trans ?_
    refine congrArg _ (congrArg _ ?_)
    unfold cflip Net.flip
    dsimp only
    rw [if_neg (by omega)]
    split <;> omega

/-- The rotations of all eight qubits. -/
def rotateAll (g : FVec Ideal S2048x8x2x2 .f32) (σ : FVec Ideal S2048x256 .f32) : FVec Ideal S2048x256 .f32 :=
  rotate7 g (rotate6 g (rotate5 g (rotate4 g (rotate3 g (rotate2 g (rotate1 g (rotate0 g σ)))))))

/-- The seven controlled flips. -/
def flipAll (σ : FVec Ideal S2048x256 .f32) : FVec Ideal S2048x256 .f32 :=
  flipIf6 (flipIf5 (flipIf4 (flipIf3 (flipIf2 (flipIf1 (flipIf0 σ))))))

theorem layer_reals {g : FVec Ideal S2048x8x2x2 .f32} {α : ℕ → ℕ → ℝ}
    (hg : Gates g (fun b q => Real.cos (α b q)) fun b q => Real.sin (α b q)) {σ : FVec Ideal S2048x256 .f32}
    {f : ℕ → ℕ → ℝ} (hσ : Reals σ f) : Reals (flipAll (rotateAll g σ)) fun b => layer (α b) (f b) :=
  flipIf6_reals (flipIf5_reals (flipIf4_reals (flipIf3_reals (flipIf2_reals (flipIf1_reals (flipIf0_reals
    (rotate7_reals hg (rotate6_reals hg (rotate5_reals hg (rotate4_reals hg (rotate3_reals hg (rotate2_reals hg
      (rotate1_reals hg (rotate0_reals hg hσ))))))))))))))

end Cert.Proof

end
-- ==== Proof.RefSpins.lean ====
/- The reference's expectations: the sums of the squared amplitudes over the two values of a qubit, read at an index. -/
module

public import proofs.«01_k».proof.Proof.Gen.ReferenceIdeal
public import proofs.«01_k».proof.Proof.KernelCircuit
public import proofs.«01_k».proof.Proof.Model

@[expose] public section

noncomputable section

namespace Cert.Proof

open Idealize.ShloMosaic Cert.ReferenceIdeal Cert.ReferenceIdeal.Gen Cert.Net

/-- A sum over the second and fourth axes of an array with four. -/
theorem sum_axes_one_three {n0 n1 n2 n3 : ℕ} (h : (⟨4, ![n0, n1, n2, n3]⟩ : Shape).ReducesTo [1, 3] ⟨2, ![n0, n2]⟩)
    (v : (⟨4, ![n0, n1, n2, n3]⟩ : Shape).Idx → EReal) (init : EReal) (b : Fin n0) (j : Fin n2) :
    Ideal.hostReduceAdd h v init (ix2 b j) = init + ∑ i : Fin n1, ∑ k : Fin n3, v (ix4 b i j k) := by
  rw [← Finset.sum_product']
  refine congrArg (init + ·) (Finset.sum_filter_eq_sum_of_fiber _ (fun p : Fin n1 × Fin n3 => ix4 b p.1 j p.2) ?_ ?_ v)
  · intro p q e
    exact Prod.ext (congrFun e 1) (congrFun e 3)
  · intro i
    constructor
    · intro e
      refine ⟨(i 1, i 3), ?_⟩
      funext a; apply Fin.ext
      match a with
      | ⟨0, _⟩ => exact (congrArg Fin.val (congrFun e 0)).symm
      | ⟨1, _⟩ => rfl
      | ⟨2, _⟩ => exact (congrArg Fin.val (congrFun e 1)).symm
      | ⟨3, _⟩ => rfl
    · rintro ⟨p, rfl⟩
      funext a; apply Fin.ext
      match a with
      | ⟨0, _⟩ => rfl
      | ⟨1, _⟩ => rfl

/-- A sum over the last two axes of an array with four. -/
theorem sum_axes_two_three {n0 n1 n2 n3 : ℕ} (h : (⟨4, ![n0, n1, n2, n3]⟩ : Shape).ReducesTo [2, 3] ⟨2, ![n0, n1]⟩)
    (v : (⟨4, ![n0, n1, n2, n3]⟩ : Shape).Idx → EReal) (init : EReal) (b : Fin n0) (j : Fin n1) :
    Ideal.hostReduceAdd h v init (ix2 b j) = init + ∑ i : Fin n2, ∑ k : Fin n3, v (ix4 b j i k) := by
  rw [← Finset.sum_product']
  refine congrArg (init + ·) (Finset.sum_filter_eq_sum_of_fiber _ (fun p : Fin n2 × Fin n3 => ix4 b j p.1 p.2) ?_ ?_ v)
  · intro p q e
    exact Prod.ext (congrFun e 2) (congrFun e 3)
  · intro i
    constructor
    · intro e
      refine ⟨(i 2, i 3), ?_⟩
      funext a; apply Fin.ext
      match a with
      | ⟨0, _⟩ => exact (congrArg Fin.val (congrFun e 0)).symm
      | ⟨1, _⟩ => exact (congrArg Fin.val (congrFun e 1)).symm
      | ⟨2, _⟩ => rfl
      | ⟨3, _⟩ => rfl
    · rintro ⟨p, rfl⟩
      funext a; apply Fin.ext
      match a with
      | ⟨0, _⟩ => rfl
      | ⟨1, _⟩ => rfl

/-- The sum over the numbers below `L * 2 * R` whose middle digit is `j`. -/
def half (L R : ℕ) (f : ℕ → ℝ) (j : ℕ) : ℝ := ∑ a ∈ Finset.range L, ∑ c ∈ Finset.range R, f (a * (2 * R) + (j * R + c))

/-- Qubit `q`'s spin splits the basis states into two halves. -/
theorem spin_sum (L q : ℕ) (h : L * (2 * 2 ^ (7 - q)) = 256) (f : ℕ → ℝ) :
    ∑ k ∈ Finset.range 256, f k * spin q k = half L (2 ^ (7 - q)) f 0 - half L (2 ^ (7 - q)) f 1 := by
  unfold half spin
  generalize hR : 2 ^ (7 - q) = R at *
  have hp : 0 < R := by rw [← hR]; positivity
  have e : ∀ a j c : ℕ, c < R → (a * (2 * R) + (j * R + c)) / R % 2 = j % 2 := fun a j c hc => by
    have : a * (2 * R) + (j * R + c) = c + R * (2 * a + j) := by ring
    rw [this, Nat.add_mul_div_left _ _ hp, Nat.div_eq_of_lt hc]
    omega
  rw [← h, sum_range_mul, ← Finset.sum_sub_distrib]
  refine Finset.sum_congr rfl fun a _ => ?_
  rw [sum_range_mul, Finset.sum_range_succ, Finset.sum_range_one, sub_eq_add_neg, ← Finset.sum_neg_distrib]
  refine congrArg₂ _ (Finset.sum_congr rfl fun c hc => ?_) (Finset.sum_congr rfl fun c hc => ?_)
  · rw [e a 0 c (Finset.mem_range.1 hc), if_pos rfl, mul_one]
  · rw [e a 1 c (Finset.mem_range.1 hc), if_neg (by decide), mul_neg_one]

/-- A half of the amplitudes, summed as extended reals. -/
theorem half_coe (L R : ℕ) (f : ℕ → ℝ) (j : ℕ) (g : Fin L → Fin R → EReal)
    (hg : ∀ (a : Fin L) (c : Fin R), g a c = ((f (a * (2 * R) + (j * R + c)) : ℝ) : EReal)) :
    ∑ a, ∑ c, g a c = ((half L R f j : ℝ) : EReal) := by
  rw [half, coe_sum, ← sum_fin]
  refine Finset.sum_congr rfl fun a _ => ?_
  rw [coe_sum, ← sum_fin]
  exact Finset.sum_congr rfl fun c _ => hg a c

theorem half0_eq {p : FVec Ideal S2048x256 .f32} {f : ℕ → ℕ → ℝ} (hp : Reals p f) (b : Fin 2048) (j : Fin 2) :
    Host.reduceAdd (shapeCast _ p shapeCasts_S2048x256_S2048x1x2x128) (constant S_ .f32 0x00000000#32)
      reducesTo_S2048x1x2x128_S2048x2_d1_3 h_S_ (ix2 b j) = ((half 1 128 (f b) j : ℝ) : EReal) := by
  refine (sum_axes_one_three reducesTo_S2048x1x2x128_S2048x2_d1_3 _ _ b j).trans ?_
  pointwise []
  refine half_coe 1 128 (f b) j _ fun a c => (hp b _).trans (congrArg _ (congrArg _ ?_))
  simp only [Fin.isValue, Fin.val_zero, mul_zero, add_zero] <;> omega

theorem half1_eq {p : FVec Ideal S2048x256 .f32} {f : ℕ → ℕ → ℝ} (hp : Reals p f) (b : Fin 2048) (j : Fin 2) :
    Host.reduceAdd (shapeCast _ p shapeCasts_S2048x256_S2048x2x2x64) (constant S_ .f32 0x00000000#32)
      reducesTo_S2048x2x2x64_S2048x2_d1_3 h_S_ (ix2 b j) = ((half 2 64 (f b) j : ℝ) : EReal) := by
  refine (sum_axes_one_three reducesTo_S2048x2x2x64_S2048x2_d1_3 _ _ b j).trans ?_
  pointwise []
  refine half_coe 2 64 (f b) j _ fun a c => (hp b _).trans (congrArg _ (congrArg _ ?_))
  simp only [Fin.isValue, Fin.val_zero, mul_zero, add_zero] <;> omega

theorem half2_eq {p : FVec Ideal S2048x256 .f32} {f : ℕ → ℕ → ℝ} (hp : Reals p f) (b : Fin 2048) (j : Fin 2) :
    Host.reduceAdd (shapeCast _ p shapeCasts_S2048x256_S2048x4x2x32) (constant S_ .f32 0x00000000#32)
      reducesTo_S2048x4x2x32_S2048x2_d1_3 h_S_ (ix2 b j) = ((half 4 32 (f b) j : ℝ) : EReal) := by
  refine (sum_axes_one_three reducesTo_S2048x4x2x32_S2048x2_d1_3 _ _ b j).trans ?_
  pointwise []
  refine half_coe 4 32 (f b) j _ fun a c => (hp b _).trans (congrArg _ (congrArg _ ?_))
  simp only [Fin.isValue, Fin.val_zero, mul_zero, add_zero] <;> omega

theorem half3_eq {p : FVec Ideal S2048x256 .f32} {f : ℕ → ℕ → ℝ} (hp : Reals p f) (b : Fin 2048) (j : Fin 2) :
    Host.reduceAdd (shapeCast _ p shapeCasts_S2048x256_S2048x8x2x16) (constant S_ .f32 0x00000000#32)
      reducesTo_S2048x8x2x16_S2048x2_d1_3 h_S_ (ix2 b j) = ((half 8 16 (f b) j : ℝ) : EReal) := by
  refine (sum_axes_one_three reducesTo_S2048x8x2x16_S2048x2_d1_3 _ _ b j).trans ?_
  pointwise []
  refine half_coe 8 16 (f b) j _ fun a c => (hp b _).trans (congrArg _ (congrArg _ ?_))
  simp only [Fin.isValue, Fin.val_zero, mul_zero, add_zero] <;> omega

theorem half4_eq {p : FVec Ideal S2048x256 .f32} {f : ℕ → ℕ → ℝ} (hp : Reals p f) (b : Fin 2048) (j : Fin 2) :
    Host.reduceAdd (shapeCast _ p shapeCasts_S2048x256_S2048x16x2x8) (constant S_ .f32 0x00000000#32)
      reducesTo_S2048x16x2x8_S2048x2_d1_3 h_S_ (ix2 b j) = ((half 16 8 (f b) j : ℝ) : EReal) := by
  refine (sum_axes_one_three reducesTo_S2048x16x2x8_S2048x2_d1_3 _ _ b j).trans ?_
  pointwise []
  refine half_coe 16 8 (f b) j _ fun a c => (hp b _).trans (congrArg _ (congrArg _ ?_))
  simp only [Fin.isValue, Fin.val_zero, mul_zero, add_zero] <;> omega

theorem half5_eq {p : FVec Ideal S2048x256 .f32} {f : ℕ → ℕ → ℝ} (hp : Reals p f) (b : Fin 2048) (j : Fin 2) :
    Host.reduceAdd (shapeCast _ p shapeCasts_S2048x256_S2048x32x2x4) (constant S_ .f32 0x00000000#32)
      reducesTo_S2048x32x2x4_S2048x2_d1_3 h_S_ (ix2 b j) = ((half 32 4 (f b) j : ℝ) : EReal) := by
  refine (sum_axes_one_three reducesTo_S2048x32x2x4_S2048x2_d1_3 _ _ b j).trans ?_
  pointwise []
  refine half_coe 32 4 (f b) j _ fun a c => (hp b _).trans (congrArg _ (congrArg _ ?_))
  simp only [Fin.isValue, Fin.val_zero, mul_zero, add_zero] <;> omega

theorem half6_eq {p : FVec Ideal S2048x256 .f32} {f : ℕ → ℕ → ℝ} (hp : Reals p f) (b : Fin 2048) (j : Fin 2) :
    Host.reduceAdd (shapeCast _ p shapeCasts_S2048x256_S2048x64x2x2) (constant S_ .f32 0x00000000#32)
      reducesTo_S2048x64x2x2_S2048x2_d1_3 h_S_ (ix2 b j) = ((half 64 2 (f b) j : ℝ) : EReal) := by
  refine (sum_axes_one_three reducesTo_S2048x64x2x2_S2048x2_d1_3 _ _ b j).trans ?_
  pointwise []
  refine half_coe 64 2 (f b) j _ fun a c => (hp b _).trans (congrArg _ (congrArg _ ?_))
  simp only [Fin.isValue, Fin.val_zero, mul_zero, add_zero] <;> omega

theorem half7_eq {p : FVec Ideal S2048x256 .f32} {f : ℕ → ℕ → ℝ} (hp : Reals p f) (b : Fin 2048) (j : Fin 2) :
    Host.reduceAdd (shapeCast _ p shapeCasts_S2048x256_S2048x128x2x1) (constant S_ .f32 0x00000000#32)
      reducesTo_S2048x128x2x1_S2048x2_d1_3 h_S_ (ix2 b j) = ((half 128 1 (f b) j : ℝ) : EReal) := by
  refine (sum_axes_one_three reducesTo_S2048x128x2x1_S2048x2_d1_3 _ _ b j).trans ?_
  pointwise []
  refine half_coe 128 1 (f b) j _ fun a c => (hp b _).trans (congrArg _ (congrArg _ ?_))
  simp only [Fin.isValue, Fin.val_zero, mul_zero, add_zero] <;> omega

end Cert.Proof

end
-- ==== Proof.RefState.lean ====
/- The reference's state after the circuit and its expectations, row by row. -/
module

public import proofs.«01_k».proof.Proof.RefStages
public import proofs.«01_k».proof.Proof.RefCircuit
public import proofs.«01_k».proof.Proof.RefSpins

@[expose] public section

noncomputable section

namespace Cert.Proof

open Idealize.ShloMosaic Cert.ReferenceIdeal Cert.ReferenceIdeal.Gen Cert.ReferenceIdeal.Value Cert.Net

variable (V : Valuation τ sig (Elt Ideal))

/-- The reference's rotation angles are finite. -/
def RFinite : Prop := ∀ (d : Fin 3) (q : Fin 8),
  (V (Proc.devRef .tc main_arg17) : S3x8.Idx → EReal) (ix2 d q) = (((rArgs V).θ d q : ℝ) : EReal)

/-- The circuit's inputs are real numbers. -/
theorem angle_reals : Reals (res_main_v139 V) fun b q => (rArgs V).angle b q := fun b q =>
  (ref_unit V b q).trans (unit_real _ (fun k => (rArgs V).flat_nonneg b k) q q.isLt)

/-- A row of rotations from their cosines and sines. -/
theorem gates_eq {C S : FVec Ideal S2048x8 .f32} {c s : ℕ → ℕ → ℝ} (hC : Reals C c) (hS : Reals S s) :
    Gates (concatenate S2048x8x2x2 2 [⟨S2048x8x1x2, (broadcastInDim S2048x8x1x2 ![0, 1, 3] bcast_S2048x8x2_S2048x8x1x2_0_1_3
        (concatenate S2048x8x2 2 [⟨S2048x8x1, (broadcastInDim S2048x8x1 ![0, 1] bcast_S2048x8_S2048x8x1_0_1 C)⟩,
          ⟨S2048x8x1, (broadcastInDim S2048x8x1 ![0, 1] bcast_S2048x8_S2048x8x1_0_1 (Host.negf S))⟩]
          concatenates_S2048x8x1_S2048x8x1_S2048x8x2_d2))⟩,
      ⟨S2048x8x1x2, (broadcastInDim S2048x8x1x2 ![0, 1, 3] bcast_S2048x8x2_S2048x8x1x2_0_1_3
        (concatenate S2048x8x2 2 [⟨S2048x8x1, (broadcastInDim S2048x8x1 ![0, 1] bcast_S2048x8_S2048x8x1_0_1 S)⟩,
          ⟨S2048x8x1, (broadcastInDim S2048x8x1 ![0, 1] bcast_S2048x8_S2048x8x1_0_1 C)⟩]
          concatenates_S2048x8x1_S2048x8x1_S2048x8x2_d2))⟩] concatenates_S2048x8x1x2_S2048x8x1x2_S2048x8x2x2_d2) c s := by
  intro b q i j
  pointwise []
  rw [hC b q, hS b q]
  unfold gate
  by_cases hi : i.val = 0 <;> by_cases hj : j.val = 0
  · simp [hi, hj]
  · simp [hi, hj]
  · simp [hi, hj]
  · simp [hi, hj]

/-- A layer's angles, from its row of parameters and the circuit's inputs. -/
theorem angles_eq {x : FVec Ideal S2048x8 .f32} {f : ℕ → ℕ → ℝ} (hx : Reals x f) {v : FVec Ideal S3x8 .f32} {θ : ℕ → ℕ → ℝ}
    (hv : Reals v θ) (d : Fin 3) (h : S3x8.Slices ![(d : ℕ), 0] S1x8) :
    Reals (addf (broadcastInDim S2048x8 ![0, 1] bcast_S1x8_S2048x8_0_1 (broadcastInDim S1x8 ![1] bcast_S8_S1x8_1
      (shapeCast _ (extractStridedSlice S1x8 ![(d : ℕ), 0] v h) shapeCasts_S1x8_S8))) x) fun b q => θ d q + f b q := by
  intro b q
  pointwise []
  rw [hv, hx, EReal.coe_add]

/-- The cosines and the sines of the half angles. -/
theorem cos_eq {x : FVec Ideal S2048x8 .f32} {f : ℕ → ℕ → ℝ} (hx : Reals x f) :
    Reals (Host.cos (mulf x (broadcastInDim S2048x8 ![] bcast_S_S2048x8 (constant S_ .f32 0x3F000000#32))))
      fun b q => Real.cos (f b q / 2) := by
  intro b q
  pointwise []
  rw [hx, ofBits_half, ← EReal.coe_mul, mul_one_div]
  rfl

theorem sin_eq {x : FVec Ideal S2048x8 .f32} {f : ℕ → ℕ → ℝ} (hx : Reals x f) :
    Reals (Host.sin (mulf x (broadcastInDim S2048x8 ![] bcast_S_S2048x8 (constant S_ .f32 0x3F000000#32))))
      fun b q => Real.sin (f b q / 2) := by
  intro b q
  pointwise []
  rw [hx, ofBits_half, ← EReal.coe_mul, mul_one_div]
  rfl

/-- The state before the first layer. -/
def startArray : FVec Ideal S2048x256 .f32 :=
  select (cmpi .eq (iotaInDim S2048x256 32 1) (broadcastInDim S2048x256 ![] bcast_S_S2048x256 (constantI S_ 32 0#32)))
    (broadcastInDim S2048x256 ![] bcast_S_S2048x256 (constant S_ .f32 0x3F800000#32))
    (broadcastInDim S2048x256 ![] bcast_S_S2048x256 (constant S_ .f32 0x00000000#32))

theorem start_reals : Reals startArray fun _ => start := by
  intro b k
  pointwise [startArray]
  rw [start, cmpi_eq (j := 0) (by omega) (by omega)]
  by_cases h : k.val = 0
  · rw [if_pos h, if_pos h]; rfl
  · rw [if_neg h, if_neg h]; rfl

theorem state_eq : res_main_v476 V = flipAll (rotateAll (res_main_v386 V) (flipAll (rotateAll (res_main_v275 V)
    (flipAll (rotateAll (res_main_v164 V) startArray))))) := rfl

theorem ref_state (hθ : RFinite V) : Reals (res_main_v476 V) fun b => circuit (rArgs V).θ ((rArgs V).angle b) := by
  rw [state_eq]
  have e1 := angles_eq (angle_reals V) (v := V (Proc.devRef .tc main_arg17)) hθ 0 slices_S3x8_S1x8_0_0
  have e2 := angles_eq (angle_reals V) (v := V (Proc.devRef .tc main_arg17)) hθ 1 slices_S3x8_S1x8_1_0
  have e3 := angles_eq (angle_reals V) (v := V (Proc.devRef .tc main_arg17)) hθ 2 slices_S3x8_S1x8_2_0
  have g1 : Gates (res_main_v164 V) _ _ := gates_eq (cos_eq e1) (sin_eq e1)
  have g2 : Gates (res_main_v275 V) _ _ := gates_eq (cos_eq e2) (sin_eq e2)
  have g3 : Gates (res_main_v386 V) _ _ := gates_eq (cos_eq e3) (sin_eq e3)
  exact layer_reals g3 (layer_reals g2 (layer_reals g1 start_reals))

theorem squares_reals (hθ : RFinite V) : Reals (res_main_v477 V)
    fun b k => circuit (rArgs V).θ ((rArgs V).angle b) k * circuit (rArgs V).θ ((rArgs V).angle b) k := by
  intro b k
  have h := ref_state V hθ b k
  pointwise [res_main_v477]
  rw [h, ← EReal.coe_mul]

end Cert.Proof

end
-- ==== Proof.RefTail.lean ====
/- The reference's dense layers, and its result at an index. -/
module

public import proofs.«01_k».proof.Proof.RefState

@[expose] public section

noncomputable section

namespace Cert.Proof

open Idealize.ShloMosaic Cert.ReferenceIdeal Cert.ReferenceIdeal.Gen Cert.ReferenceIdeal.Value Cert.Net

/-- The difference of two halves, as a column. -/
def spinColumn (v : FVec Ideal S2048x2 .f32) : FVec Ideal S2048x1 .f32 :=
  broadcastInDim S2048x1 ![0] bcast_S2048_S2048x1_0
    (subf (shapeCast _ (extractStridedSlice S2048x1 ![0, 0] v slices_S2048x2_S2048x1_0_0) shapeCasts_S2048x1_S2048)
      (shapeCast _ (extractStridedSlice S2048x1 ![0, 1] v slices_S2048x2_S2048x1_0_1) shapeCasts_S2048x1_S2048))

theorem spinColumn_eq {v : FVec Ideal S2048x2 .f32} {f : ℕ → ℕ → ℝ} (hv : Reals v f) (b : Fin 2048) :
    spinColumn v (ix2 b 0) = ((f b 0 - f b 1 : ℝ) : EReal) := by
  have h0 := hv b 0
  have h1 := hv b 1
  pointwise [spinColumn]
  rw [h0, h1, EReal.coe_sub]
  rfl

/-- Eight columns side by side. -/
theorem columns_eq (u : Fin 8 → FVec Ideal S2048x1 .f32) (b : Fin 2048) (q : Fin 8) :
    (concatenate S2048x8 1 [⟨S2048x1, u 0⟩, ⟨S2048x1, u 1⟩, ⟨S2048x1, u 2⟩, ⟨S2048x1, u 3⟩, ⟨S2048x1, u 4⟩, ⟨S2048x1, u 5⟩, ⟨S2048x1, u 6⟩, ⟨S2048x1, u 7⟩]
      concatenates_S2048x1_S2048x1_S2048x1_S2048x1_S2048x1_S2048x1_S2048x1_S2048x1_S2048x8_d1 : FVec Ideal S2048x8 .f32) (ix2 b q)
      = u q (ix2 b 0) := by
  match q with
  | 0 => pointwise []
  | 1 => pointwise []
  | 2 => pointwise []
  | 3 => pointwise []
  | 4 => pointwise []
  | 5 => pointwise []
  | 6 => pointwise []
  | 7 => pointwise []

/-- The eight columns side by side. -/
def spinArray (v0 v1 v2 v3 v4 v5 v6 v7 : FVec Ideal S2048x2 .f32) : FVec Ideal S2048x8 .f32 :=
  concatenate S2048x8 1 [⟨S2048x1, spinColumn v0⟩, ⟨S2048x1, spinColumn v1⟩, ⟨S2048x1, spinColumn v2⟩, ⟨S2048x1, spinColumn v3⟩, ⟨S2048x1, spinColumn v4⟩, ⟨S2048x1, spinColumn v5⟩, ⟨S2048x1, spinColumn v6⟩, ⟨S2048x1, spinColumn v7⟩]
    concatenates_S2048x1_S2048x1_S2048x1_S2048x1_S2048x1_S2048x1_S2048x1_S2048x1_S2048x8_d1

/-- The columns are the spins' expectations where each pair of halves is that of the squared amplitudes. -/
theorem spinArray_reals {v0 v1 v2 v3 v4 v5 v6 v7 : FVec Ideal S2048x2 .f32} {f : ℕ → ℕ → ℝ}
    (h0 : Reals v0 fun b => half 1 128 fun k => f b k * f b k)
    (h1 : Reals v1 fun b => half 2 64 fun k => f b k * f b k)
    (h2 : Reals v2 fun b => half 4 32 fun k => f b k * f b k)
    (h3 : Reals v3 fun b => half 8 16 fun k => f b k * f b k)
    (h4 : Reals v4 fun b => half 16 8 fun k => f b k * f b k)
    (h5 : Reals v5 fun b => half 32 4 fun k => f b k * f b k)
    (h6 : Reals v6 fun b => half 64 2 fun k => f b k * f b k)
    (h7 : Reals v7 fun b => half 128 1 fun k => f b k * f b k) :
    Reals (spinArray v0 v1 v2 v3 v4 v5 v6 v7) fun b => Net.expect (f b) := by
  intro b q
  have e : ∀ (L q : ℕ) (v : FVec Ideal S2048x2 .f32) (_ : L * (2 * 2 ^ (7 - q)) = 256)
      (_ : Reals v fun b => half L (2 ^ (7 - q)) fun k => f b k * f b k),
      spinColumn v (ix2 b 0) = ((Net.expect (f b) q : ℝ) : EReal) := fun L q v hL hv =>
    (spinColumn_eq hv b).trans (congrArg _ (spin_sum L q hL fun k => f b k * f b k).symm)
  have e' := columns_eq ![spinColumn v0, spinColumn v1, spinColumn v2, spinColumn v3, spinColumn v4, spinColumn v5,
    spinColumn v6, spinColumn v7] b q
  refine e'.trans ?_
  match q with
  | 0 => exact e 1 0 v0 (by decide) h0
  | 1 => exact e 2 1 v1 (by decide) h1
  | 2 => exact e 4 2 v2 (by decide) h2
  | 3 => exact e 8 3 v3 (by decide) h3
  | 4 => exact e 16 4 v4 (by decide) h4
  | 5 => exact e 32 5 v5 (by decide) h5
  | 6 => exact e 64 6 v6 (by decide) h6
  | 7 => exact e 128 7 v7 (by decide) h7

variable (V : Valuation τ sig (Elt Ideal))

theorem ref_spins (hθ : RFinite V) : Reals (spinArray (res_main_v479 V) (res_main_v486 V) (res_main_v493 V) (res_main_v500 V)
    (res_main_v507 V) (res_main_v514 V) (res_main_v521 V) (res_main_v528 V)) fun b q => (rArgs V).spins b q := by
  have h := squares_reals V hθ
  have h0 : Reals (res_main_v479 V) fun b => half 1 128 fun k =>
      circuit (rArgs V).θ ((rArgs V).angle b) k * circuit (rArgs V).θ ((rArgs V).angle b) k := fun b j => half0_eq h b j
  have h1 : Reals (res_main_v486 V) fun b => half 2 64 fun k =>
      circuit (rArgs V).θ ((rArgs V).angle b) k * circuit (rArgs V).θ ((rArgs V).angle b) k := fun b j => half1_eq h b j
  have h2 : Reals (res_main_v493 V) fun b => half 4 32 fun k =>
      circuit (rArgs V).θ ((rArgs V).angle b) k * circuit (rArgs V).θ ((rArgs V).angle b) k := fun b j => half2_eq h b j
  have h3 : Reals (res_main_v500 V) fun b => half 8 16 fun k =>
      circuit (rArgs V).θ ((rArgs V).angle b) k * circuit (rArgs V).θ ((rArgs V).angle b) k := fun b j => half3_eq h b j
  have h4 : Reals (res_main_v507 V) fun b => half 16 8 fun k =>
      circuit (rArgs V).θ ((rArgs V).angle b) k * circuit (rArgs V).θ ((rArgs V).angle b) k := fun b j => half4_eq h b j
  have h5 : Reals (res_main_v514 V) fun b => half 32 4 fun k =>
      circuit (rArgs V).θ ((rArgs V).angle b) k * circuit (rArgs V).θ ((rArgs V).angle b) k := fun b j => half5_eq h b j
  have h6 : Reals (res_main_v521 V) fun b => half 64 2 fun k =>
      circuit (rArgs V).θ ((rArgs V).angle b) k * circuit (rArgs V).θ ((rArgs V).angle b) k := fun b j => half6_eq h b j
  have h7 : Reals (res_main_v528 V) fun b => half 128 1 fun k =>
      circuit (rArgs V).θ ((rArgs V).angle b) k * circuit (rArgs V).θ ((rArgs V).angle b) k := fun b j => half7_eq h b j
  intro b q
  exact spinArray_reals (f := fun b => circuit (rArgs V).θ ((rArgs V).angle b)) h0 h1 h2 h3 h4 h5 h6 h7 b q

/-- The product of the two small dense layers, from the expectations and the feature maps. -/
def fusedArray (Z : FVec Ideal S2048x8 .f32) (M : FVec Ideal S2048x64x6x6 .f32) (q2c : FVec Ideal S64x8 .f32)
    (q2cb : FVec Ideal S64 .f32) (bq : FVec Ideal S32x64 .f32) (bqb : FVec Ideal S32 .f32) (bf : FVec Ideal S32x64 .f32)
    (bfb : FVec Ideal S32 .f32) : FVec Ideal S2048x32 .f32 :=
  mulf (Host.tanh (addf (Host.dotGeneral dot_S2048x64_S64x32_S2048x32_1_0_0_1_n_n none (addf (Host.dotGeneral dot_S2048x8_S8x64_S2048x64_1_0_0_1_n_n none Z (transpose S8x64 [1, 0] q2c transposes_S64x8_S8x64_1_0)) (broadcastInDim S2048x64 ![0, 1] bcast_S1x64_S2048x64_0_1 (broadcastInDim S1x64 ![1] bcast_S64_S1x64_1 q2cb))) (transpose S64x32 [1, 0] bq transposes_S32x64_S64x32_1_0)) (broadcastInDim S2048x32 ![0, 1] bcast_S1x32_S2048x32_0_1 (broadcastInDim S1x32 ![1] bcast_S32_S1x32_1 bqb)))) (Host.tanh (addf (Host.dotGeneral dot_S2048x64_S64x32_S2048x32_1_0_0_1_n_n none (Host.sin (mulf (Host.divf (Host.reduceAdd M (constant S_ .f32 0x00000000#32) reducesTo_S2048x64x6x6_S2048x64_d2_3 h_S_) (broadcastInDim S2048x64 ![] bcast_S_S2048x64 (constant S_ .f32 0x42100000#32))) (broadcastInDim S2048x64 ![] bcast_S_S2048x64 (constant S_ .f32 0x40490FD0#32)))) (transpose S64x32 [1, 0] bf transposes_S32x64_S64x32_1_0)) (broadcastInDim S2048x32 ![0, 1] bcast_S1x32_S2048x32_0_1 (broadcastInDim S1x32 ![1] bcast_S32_S1x32_1 bfb))))

theorem fused_eq : res_main_v566 V = fusedArray (spinArray (res_main_v479 V) (res_main_v486 V) (res_main_v493 V) (res_main_v500 V)
    (res_main_v507 V) (res_main_v514 V) (res_main_v521 V) (res_main_v528 V)) (res_main_v132 V) (V (Proc.devRef .tc main_arg9))
    (V (Proc.devRef .tc main_arg10)) (V (Proc.devRef .tc main_arg11)) (V (Proc.devRef .tc main_arg12))
    (V (Proc.devRef .tc main_arg13)) (V (Proc.devRef .tc main_arg14)) := rfl

theorem fusedArray_eq (a : Args) (Z : FVec Ideal S2048x8 .f32) (M : FVec Ideal S2048x64x6x6 .f32) (q2c : FVec Ideal S64x8 .f32)
    (q2cb : FVec Ideal S64 .f32) (bq : FVec Ideal S32x64 .f32) (bqb : FVec Ideal S32 .f32) (bf : FVec Ideal S32x64 .f32)
    (bfb : FVec Ideal S32 .f32) (b : Fin 2048) (j : Fin 32)
    (hZ : ∀ q : Fin 8, Z (ix2 b q) = ((a.spins b q : ℝ) : EReal))
    (hM : ∀ (c : Fin 64) (r s : Fin 6), M (ix4 b c r s) = a.map b c r s)
    (h1 : ∀ (n : Fin 64) (q : Fin 8), q2c (ix2 n q) = a.q2c n q) (h2 : ∀ n : Fin 64, q2cb (ix1 n) = a.q2cb n)
    (h3 : ∀ n : Fin 64, bq (ix2 j n) = a.bq j n) (h4 : bqb (ix1 j) = a.bqb j)
    (h5 : ∀ n : Fin 64, bf (ix2 j n) = a.bf j n) (h6 : bfb (ix1 j) = a.bfb j) :
    fusedArray Z M q2c q2cb bq bqb bf bfb (ix2 b j) = a.fused b j := by
  pointwise [fusedArray]
  simp only [sum_axes_two_three, hZ, hM, h1, h2, h3, h4, h5, h6, ofBits_thirtysix, div_real _ (show (36 : ℝ) ≠ 0 by norm_num)]
  unfold Args.fused Args.quantum Args.mean turn
  simp only [← sum_fin]

end Cert.Proof

end
-- ==== Proof.RefOut.lean ====
/- The reference's result array is the network's result. -/
module

public import proofs.«01_k».proof.Proof.RefTail

@[expose] public section

noncomputable section

namespace Cert.Proof

open Idealize.ShloMosaic Cert.ReferenceIdeal Cert.ReferenceIdeal.Gen Cert.ReferenceIdeal.Value Cert.Net

/-- The layers after the features, from the flattened features and the small layers' product. -/
def denseArray (X : FVec Ideal S2048x2304 .f32) (W : FVec Ideal S2048x32 .f32) (fc1 : FVec Ideal S512x2304 .f32)
    (fc1b : FVec Ideal S512 .f32) (fc2 : FVec Ideal S10x512 .f32) (fc2b : FVec Ideal S10 .f32)
    (int : FVec Ideal S512x544 .f32) (intb : FVec Ideal S512 .f32) : FVec Ideal S2048x10 .f32 :=
  addf (Host.dotGeneral dot_S2048x512_S512x10_S2048x10_1_0_0_1_n_n none (addf (Host.dotGeneral dot_S2048x544_S544x512_S2048x512_1_0_0_1_n_n none (concatenate S2048x544 1 [⟨S2048x512, (maximumf (addf (Host.dotGeneral dot_S2048x2304_S2304x512_S2048x512_1_0_0_1_n_n none X (transpose S2304x512 [1, 0] fc1 transposes_S512x2304_S2304x512_1_0)) (broadcastInDim S2048x512 ![0, 1] bcast_S1x512_S2048x512_0_1 (broadcastInDim S1x512 ![1] bcast_S512_S1x512_1 fc1b))) (broadcastInDim S2048x512 ![] bcast_S_S2048x512 (constant S_ .f32 0x00000000#32)))⟩, ⟨S2048x32, W⟩] concatenates_S2048x512_S2048x32_S2048x544_d1) (transpose S544x512 [1, 0] int transposes_S512x544_S544x512_1_0)) (broadcastInDim S2048x512 ![0, 1] bcast_S1x512_S2048x512_0_1 (broadcastInDim S1x512 ![1] bcast_S512_S1x512_1 intb))) (transpose S512x10 [1, 0] fc2 transposes_S10x512_S512x10_1_0)) (broadcastInDim S2048x10 ![0, 1] bcast_S1x10_S2048x10_0_1 (broadcastInDim S1x10 ![1] bcast_S10_S1x10_1 fc2b))

theorem denseArray_eq (a : Args) (X : FVec Ideal S2048x2304 .f32) (W : FVec Ideal S2048x32 .f32) (fc1 : FVec Ideal S512x2304 .f32)
    (fc1b : FVec Ideal S512 .f32) (fc2 : FVec Ideal S10x512 .f32) (fc2b : FVec Ideal S10 .f32)
    (int : FVec Ideal S512x544 .f32) (intb : FVec Ideal S512 .f32) (b : Fin 2048) (o : Fin 10)
    (hX : ∀ k : Fin 2304, X (ix2 b k) = a.flat b k) (hW : ∀ k : Fin 32, W (ix2 b k) = a.fused b k)
    (h1 : ∀ (n : Fin 512) (k : Fin 2304), fc1 (ix2 n k) = a.fc1 n k) (h2 : ∀ n : Fin 512, fc1b (ix1 n) = a.fc1b n)
    (h3 : ∀ n : Fin 512, fc2 (ix2 o n) = a.fc2 o n) (h4 : fc2b (ix1 o) = a.fc2b o)
    (h5 : ∀ (n : Fin 512) (k : Fin 544), int (ix2 n k) = a.int n k) (h6 : ∀ n : Fin 512, intb (ix1 n) = a.intb n) :
    denseArray X W fc1 fc1b fc2 fc2b int intb (ix2 b o) = a.result b o := by
  pointwise [denseArray]
  simp only [hX, h1, h2, h3, h4, h5, h6]
  unfold Args.result Args.joined Args.classical
  simp only [← sum_fin]
  refine congrArg (· + _) (Finset.sum_congr rfl fun n _ => congrArg (· * _) (congrArg (· + _) (congrArg (_ + ·) ?_)))
  exact Finset.sum_congr rfl fun k _ => congrArg (· * _) (hW k)

theorem ref_fused (V : Valuation τ sig (Elt Ideal)) (hθ : RFinite V) (b : Fin 2048) (j : Fin 32) :
    res_main_v566 V (ix2 b j) = (rArgs V).fused b j := by
  rw [fused_eq]
  exact fusedArray_eq (rArgs V) _ _ _ _ _ _ _ _ b j (ref_spins V hθ b) (ref_map V b)
    (fun n q => at2_ix (V (Proc.devRef .tc main_arg9)) n q) (fun n => at1_ix (V (Proc.devRef .tc main_arg10)) n)
    (fun n => at2_ix (V (Proc.devRef .tc main_arg11)) j n) (at1_ix (V (Proc.devRef .tc main_arg12)) j)
    (fun n => at2_ix (V (Proc.devRef .tc main_arg13)) j n) (at1_ix (V (Proc.devRef .tc main_arg14)) j)

/-- The reference's result at row `b`, column `o`. -/
theorem ref_result (V : Valuation τ sig (Elt Ideal)) (hθ : RFinite V) (b : Fin 2048) (o : Fin 10) :
    denseArray (res_main_v133 V) (res_main_v566 V) (V (Proc.devRef .tc main_arg5)) (V (Proc.devRef .tc main_arg6))
      (V (Proc.devRef .tc main_arg7)) (V (Proc.devRef .tc main_arg8)) (V (Proc.devRef .tc main_arg15))
      (V (Proc.devRef .tc main_arg16)) (ix2 b o) = (rArgs V).result b o :=
  denseArray_eq (rArgs V) _ _ _ _ _ _ _ _ b o (ref_flat V b) (ref_fused V hθ b)
    (fun n k => at2_ix (V (Proc.devRef .tc main_arg5)) n k) (fun n => at1_ix (V (Proc.devRef .tc main_arg6)) n)
    (fun n => at2_ix (V (Proc.devRef .tc main_arg7)) o n) (at1_ix (V (Proc.devRef .tc main_arg8)) o)
    (fun n k => at2_ix (V (Proc.devRef .tc main_arg15)) n k) (fun n => at1_ix (V (Proc.devRef .tc main_arg16)) n)

end Cert.Proof

end
-- ==== Proof.Tables.lean ====
/- The kernel's constant tables: the bands of the two convolutions, the channels and the
   first features, the moves and signs of the circuit, the spins. -/
module

public import proofs.«01_k».proof.Proof.Gen.KernelIdeal
public import proofs.«01_k».proof.Proof.Circuit
public import Idealize.ShloMosaic.Lib.Pointwise

@[expose] public section

noncomputable section

namespace Cert.Proof

open Idealize.ShloMosaic Cert.KernelIdeal Cert.Net

set_option maxRecDepth 100000 in
theorem lit0_word : ∀ (k : Fin 3) (κ : Fin 28) (n : Fin 14) (o : Fin 2), lit0 (S3x28x14x2.rowMajor (ix4 k κ n o))
    = if κ.val + 1 = 2 * n + o + k then 1065353216#32 else 0#32 := by decide +kernel

set_option maxRecDepth 100000 in
theorem lit1_word : ∀ (k : Fin 3) (κ : Fin 14) (n : Fin 6) (o : Fin 2), lit1 (S3x14x6x2.rowMajor (ix4 k κ n o))
    = if κ.val = 2 * n + o + k then 1065353216#32 else 0#32 := by decide +kernel

set_option maxRecDepth 100000 in
theorem lit6_word : ∀ (k : Fin 256) (q : Fin 8), lit6 (S256x8.rowMajor (ix2 k q))
    = if k.val / 2 ^ (7 - q.val) % 2 = 0 then 1065353216#32 else 3212836864#32 := by decide +kernel

set_option maxRecDepth 100000 in
theorem lit2_word : ∀ (κ : Fin 384) (n : Fin 64), lit2 (S384x64.rowMajor (ix2 κ n))
    = if κ.val / 6 = n.val then 1065353216#32 else 0#32 := by decide +kernel

set_option maxRecDepth 100000 in
theorem lit3_word : ∀ (t : Fin 6) (κ : Fin 384) (n : Fin 8), lit3 (S6x384x8.rowMajor (ix3 t κ n))
    = if t.val * 6 + κ.val = n.val ∧ κ.val < 6 then 1065353216#32 else 0#32 := by decide +kernel

/-- `sgn` as an integer. -/
def isgn (r k : ℕ) : ℤ := if k / r % 2 = 0 then -1 else 1

theorem isgn_cast (r k : ℕ) : ((isgn r k : ℤ) : ℝ) = sgn r k := by
  unfold isgn sgn; split_ifs <;> norm_num

/-- The row of table `t` that column `k` reads. -/
def moveRow : ℕ → ℕ → ℕ
  | 0, k => flip 128 k
  | 1, k => flip 64 k
  | 2, k => flip 128 (flip 64 k)
  | 3, k => flip 32 k
  | 4, k => flip 16 k
  | 5, k => flip 32 (flip 16 k)
  | 6, k => flip 8 k
  | 7, k => flip 4 k
  | 8, k => flip 8 (flip 4 k)
  | 9, k => chain k
  | 10, k => flip 2 (chain k)
  | 11, k => flip 1 (chain k)
  | _, k => flip 2 (flip 1 (chain k))

/-- The sign with which it reads it. -/
def moveSign : ℕ → ℕ → ℤ
  | 0, k => isgn 128 k
  | 1, k => isgn 64 k
  | 2, k => isgn 128 (flip 64 k) * isgn 64 k
  | 3, k => isgn 32 k
  | 4, k => isgn 16 k
  | 5, k => isgn 32 (flip 16 k) * isgn 16 k
  | 6, k => isgn 8 k
  | 7, k => isgn 4 k
  | 8, k => isgn 8 (flip 4 k) * isgn 4 k
  | 9, _ => 1
  | 10, k => isgn 2 (chain k)
  | 11, k => isgn 1 (chain k)
  | _, k => isgn 2 (flip 1 (chain k)) * isgn 1 (chain k)

set_option maxRecDepth 100000 in
theorem lit4_word : ∀ (t : Fin 13) (k : Fin 256), moveRow t k < 256 ∧
    lit4 (S13x256.rowMajor (ix2 t k)) = BitVec.ofNat 32 (moveRow t k) := by decide +kernel

set_option maxRecDepth 100000 in
theorem lit5_word : ∀ (t : Fin 13) (k : Fin 256), (moveSign t k = 1 ∧ lit5 (S13x256.rowMajor (ix2 t k)) = 1065353216#32) ∨
    (moveSign t k = -1 ∧ lit5 (S13x256.rowMajor (ix2 t k)) = 3212836864#32) := by decide +kernel

end Cert.Proof

end
-- ==== Proof.KernelDense.lean ====
/- The kernel's second convolution stage, its two contractions over the features, and what it computes from them. -/
module

public import proofs.«01_k».proof.Proof.Gen.KernelIdeal.Skeleton
public import proofs.«01_k».proof.Proof.Net

@[expose] public section

noncomputable section

namespace Cert.Proof

open Idealize.ShloMosaic Cert.KernelIdeal Cert.KernelIdeal.Gen Cert.Net Finset

/-- A banded contraction of the second stage's weights: kernel row `kh`, column `κ`, output column `n`. -/
def bandSecond (w : ℕ → ℕ → ℕ → ℕ → EReal) (kh κ n : ℕ) : EReal :=
  ∑ k ∈ range 3, (if κ % 14 = 2 * (n % 384 % 6) + n / 384 + k then (1 : EReal) else 0) * w (n % 384 / 6) (κ / 14) kh k

/-- The second stage before its bias: the greatest of the four contractions. -/
theorem pay11_eq (v39 v40 v41 v42 v43 : FVec Ideal S6x256x448 .f32) (v44 : FVec Ideal S1536x448 .f32)
    (w0 w1 w2 : FVec Ideal S1x448x768 .f32) (H : ℕ → ℕ → ℕ → ℕ → EReal) (w : ℕ → ℕ → ℕ → ℕ → EReal)
    (h44 : ∀ (r : Fin 1536) (κ : Fin 448), v44 (ix2 r κ) = H (r % 256) (κ / 14) (2 * (r / 256)) (κ % 14))
    (h39 : ∀ (t : Fin 6) (b : Fin 256) (κ : Fin 448), v39 (ix3 t b κ) = H b (κ / 14) (2 * t + 1) (κ % 14))
    (h40 : ∀ (t : Fin 6) (b : Fin 256) (κ : Fin 448), v40 (ix3 t b κ) = H b (κ / 14) (2 * t + 2) (κ % 14))
    (h41 : ∀ (t : Fin 6) (b : Fin 256) (κ : Fin 448), v41 (ix3 t b κ) = H b (κ / 14) (2 * t + 1) (κ % 14))
    (h42 : ∀ (t : Fin 6) (b : Fin 256) (κ : Fin 448), v42 (ix3 t b κ) = H b (κ / 14) (2 * t + 2) (κ % 14))
    (h43 : ∀ (t : Fin 6) (b : Fin 256) (κ : Fin 448), v43 (ix3 t b κ) = H b (κ / 14) (2 * t + 3) (κ % 14))
    (hw0 : ∀ (κ : Fin 448) (n : Fin 768), w0 (ix3 0 κ n) = bandSecond w 0 κ n)
    (hw1 : ∀ (κ : Fin 448) (n : Fin 768), w1 (ix3 0 κ n) = bandSecond w 1 κ n)
    (hw2 : ∀ (κ : Fin 448) (n : Fin 768), w2 (ix3 0 κ n) = bandSecond w 2 κ n)
    (r : Fin 1536) (n : Fin 384) :
    k0_pay11 v39 v40 v41 v42 v43 v44 w0 w1 w2 w0 w1 w2 (ix2 r n)
      = max (max (conv 32 (H (r % 256)) (w (n / 6)) (2 * (r / 256)) (2 * (n % 6)))
            (conv 32 (H (r % 256)) (w (n / 6)) (2 * (r / 256)) (2 * (n % 6) + 1)))
          (max (conv 32 (H (r % 256)) (w (n / 6)) (2 * (r / 256) + 1) (2 * (n % 6)))
            (conv 32 (H (r % 256)) (w (n / 6)) (2 * (r / 256) + 1) (2 * (n % 6) + 1))) := by
  pointwise [k0_pay11]
  have three : ∀ R m : ℕ,
      ∑ x : Fin 448, H (r % 256) (x / 14) R (x % 14) * bandSecond w 0 x m
        + ∑ x : Fin 448, H (r % 256) (x / 14) (R + 1) (x % 14) * bandSecond w 1 x m
        + ∑ x : Fin 448, H (r % 256) (x / 14) (R + 2) (x % 14) * bandSecond w 2 x m
      = if m < 768 then conv 32 (H (r % 256)) (w (m % 384 / 6)) R (2 * (m % 384 % 6) + m / 384) else
        ∑ kh ∈ range 3, ∑ κ ∈ range 448, H (r % 256) (κ / 14) (R + kh) (κ % 14) * bandSecond w kh κ m := by
    intro R m
    have h : ∑ kh ∈ range 3, ∑ κ ∈ range 448, H (r % 256) (κ / 14) (R + kh) (κ % 14) * bandSecond w kh κ m
        = ∑ x : Fin 448, H (r % 256) (x / 14) R (x % 14) * bandSecond w 0 x m
        + ∑ x : Fin 448, H (r % 256) (x / 14) (R + 1) (x % 14) * bandSecond w 1 x m
        + ∑ x : Fin 448, H (r % 256) (x / 14) (R + 2) (x % 14) * bandSecond w 2 x m := by
      simp only [sum_range_succ _ 2, sum_range_succ _ 1, sum_range_succ _ 0, range_zero, sum_empty, zero_add, ← sum_fin,
        Nat.add_zero]
    rw [← h]
    split_ifs with hm
    · exact conv_band_second (H (r % 256)) (w (m % 384 / 6)) R _ (by omega)
    · rfl
  have a := three (2 * (r / 256)) n
  have b := three (2 * (r / 256)) (384 + n)
  have c := three (2 * (r / 256) + 1) n
  have d := three (2 * (r / 256) + 1) (384 + n)
  rw [if_pos (by omega), show n.val % 384 = n by omega, show n.val / 384 = 0 by omega] at a c
  rw [if_pos (by omega), show (384 + n.val) % 384 = n by omega, show (384 + n.val) / 384 = 1 by omega] at b d
  simp only [Nat.add_assoc, Nat.reduceAdd, Nat.add_zero] at a b c d
  simp only [h44, h39, h40, h41, h42, h43, hw0, hw1, hw2, a, b, c, d]

/-- The second stage's entry `(t, b, c * 6 + s)`: feature `c` at row `t`, column `s`. -/
theorem pay12_eq (v78 : FVec Ideal S1536x384 .f32) (v79 : FVec Ideal S1x384 .f32)
    (H : ℕ → ℕ → ℕ → ℕ → EReal) (w : ℕ → ℕ → ℕ → ℕ → EReal) (β : ℕ → EReal)
    (h78 : ∀ (r : Fin 1536) (n : Fin 384), v78 (ix2 r n)
      = max (max (conv 32 (H (r % 256)) (w (n / 6)) (2 * (r / 256)) (2 * (n % 6)))
            (conv 32 (H (r % 256)) (w (n / 6)) (2 * (r / 256)) (2 * (n % 6) + 1)))
          (max (conv 32 (H (r % 256)) (w (n / 6)) (2 * (r / 256) + 1) (2 * (n % 6)))
            (conv 32 (H (r % 256)) (w (n / 6)) (2 * (r / 256) + 1) (2 * (n % 6) + 1))))
    (h79 : ∀ n : Fin 384, v79 (ix2 0 n) = β (n / 6)) (t : Fin 6) (b : Fin 256) (n : Fin 384) :
    k0_pay12 v78 v79 (ix3 t b n) = feat (H b) w β (n / 6) t (n % 6) := by
  pointwise [k0_pay12]
  simp only [h78, h79, show (t.val * 256 + b.val) % 256 = b by omega, show (t.val * 256 + b.val) / 256 = t by omega]
  rw [max4_bias, max_max_max_comm]
  rfl

/-- The contraction of the features with a table per row. -/
def overRows (P : ℕ → ℕ → EReal) (g : ℕ → ℕ → EReal) : EReal := ∑ t ∈ range 6, ∑ κ ∈ range 384, P t κ * g t κ

theorem overRows_eq (P g : ℕ → ℕ → EReal) :
    ∑ κ : Fin 384, P 0 κ * g 0 κ + ∑ κ : Fin 384, P 1 κ * g 1 κ + ∑ κ : Fin 384, P 2 κ * g 2 κ
      + ∑ κ : Fin 384, P 3 κ * g 3 κ + ∑ κ : Fin 384, P 4 κ * g 4 κ + ∑ κ : Fin 384, P 5 κ * g 5 κ = overRows P g := by
  simp only [overRows, sum_range_succ _ 5, sum_range_succ _ 4, sum_range_succ _ 3, sum_range_succ _ 2, sum_range_succ _ 1,
    sum_range_succ _ 0, range_zero, sum_empty, zero_add, ← sum_fin]

section
variable (v78 : FVec Ideal S1536x384 .f32) (v79 : FVec Ideal S1x384 .f32) (P : ℕ → ℕ → ℕ → EReal)
  (hP : ∀ (t : Fin 6) (b : Fin 256) (κ : Fin 384), k0_pay12 v78 v79 (ix3 t b κ) = P b t κ)
include hP

/-- The contraction behind the averages and the first features. -/
theorem pay19_eq (g0 g1 g2 g3 g4 g5 : FVec Ideal S1x384x72 .f32) (g : ℕ → ℕ → ℕ → EReal)
    (h0 : ∀ (κ : Fin 384) (n : Fin 72), g0 (ix3 0 κ n) = g 0 κ n)
    (h1 : ∀ (κ : Fin 384) (n : Fin 72), g1 (ix3 0 κ n) = g 1 κ n)
    (h2 : ∀ (κ : Fin 384) (n : Fin 72), g2 (ix3 0 κ n) = g 2 κ n)
    (h3 : ∀ (κ : Fin 384) (n : Fin 72), g3 (ix3 0 κ n) = g 3 κ n)
    (h4 : ∀ (κ : Fin 384) (n : Fin 72), g4 (ix3 0 κ n) = g 4 κ n)
    (h5 : ∀ (κ : Fin 384) (n : Fin 72), g5 (ix3 0 κ n) = g 5 κ n) (b : Fin 256) (n : Fin 72) :
    k0_pay19 (k0_pay16 (k0_pay12 v78 v79) (k0_pay13 v78 v79 g0 g1) (k0_pay15 v78 v79) g2 g3 g4) (k0_pay18 (k0_pay12 v78 v79)) g5
      (ix2 b n) = overRows (P b) fun t κ => g t κ n := by
  rw [← overRows_eq]
  generalize hp : k0_pay12 v78 v79 = p at *
  pointwise [k0_pay19, k0_pay16, k0_pay13, k0_pay15, k0_pay18]
  simp only [hp, hP, h0, h1, h2, h3, h4, h5]
  rfl

/-- The first dense layer. -/
theorem pay20_eq (g0 g1 g2 g3 g4 g5 : FVec Ideal S1x384x512 .f32) (v156 : FVec Ideal S1x512 .f32) (g : ℕ → ℕ → ℕ → EReal)
    (β : ℕ → EReal)
    (h0 : ∀ (κ : Fin 384) (n : Fin 512), g0 (ix3 0 κ n) = g 0 κ n)
    (h1 : ∀ (κ : Fin 384) (n : Fin 512), g1 (ix3 0 κ n) = g 1 κ n)
    (h2 : ∀ (κ : Fin 384) (n : Fin 512), g2 (ix3 0 κ n) = g 2 κ n)
    (h3 : ∀ (κ : Fin 384) (n : Fin 512), g3 (ix3 0 κ n) = g 3 κ n)
    (h4 : ∀ (κ : Fin 384) (n : Fin 512), g4 (ix3 0 κ n) = g 4 κ n)
    (h5 : ∀ (κ : Fin 384) (n : Fin 512), g5 (ix3 0 κ n) = g 5 κ n)
    (hβ : ∀ n : Fin 512, v156 (ix2 0 n) = β n) (b : Fin 256) (n : Fin 512) :
    k0_pay20 (k0_pay17 (k0_pay12 v78 v79) (k0_pay14 v78 v79 g0 g1 g2) g3 g4 g5) v156 (ix2 b n)
      = max (overRows (P b) (fun t κ => g t κ n) + β n) 0 := by
  rw [← overRows_eq]
  generalize hp : k0_pay12 v78 v79 = p at *
  pointwise [k0_pay20, k0_pay17, k0_pay14]
  simp only [hp, hP, h0, h1, h2, h3, h4, h5, hβ]
  rfl

end

end Cert.Proof

end
-- ==== Proof.KernelArrays.lean ====
/- The arrays that the kernel's host code hands to its call, read at an index. -/
module

public import proofs.«01_k».proof.Proof.Gen.KernelIdeal.Value
public import proofs.«01_k».proof.Proof.Tables
public import proofs.«01_k».proof.Proof.Views
public import proofs.«01_k».proof.Proof.KernelDense
public import proofs.«01_k».proof.Proof.KernelCircuit
public import Idealize.ShloMosaic.Lib.Claim
public import Idealize.ShloMosaic.Lib.Pointwise
public import Idealize.ShloMosaic.Lib.StableHlo.RunRead

@[expose] public section

noncomputable section

namespace Cert.Proof

open Idealize.ShloMosaic Idealize.ShloMosaic.TcCoe Cert.KernelIdeal Cert.KernelIdeal.Gen Cert.Net Finset

variable (m : (ℓ : Loc nD τ sig) → Buf (Elt Ideal) ℓ) (c : Dev nD)

/-- The network's arguments as they lie in the kernel's memory. -/
def kArgs : Args := argsOf (m (c, Proc.tc.devRef main_arg0)) (m (c, Proc.tc.devRef main_arg1)) (m (c, Proc.tc.devRef main_arg2))
  (m (c, Proc.tc.devRef main_arg3)) (m (c, Proc.tc.devRef main_arg4)) (m (c, Proc.tc.devRef main_arg5))
  (m (c, Proc.tc.devRef main_arg6)) (m (c, Proc.tc.devRef main_arg7)) (m (c, Proc.tc.devRef main_arg8))
  (m (c, Proc.tc.devRef main_arg9)) (m (c, Proc.tc.devRef main_arg10)) (m (c, Proc.tc.devRef main_arg11))
  (m (c, Proc.tc.devRef main_arg12)) (m (c, Proc.tc.devRef main_arg13)) (m (c, Proc.tc.devRef main_arg14))
  (m (c, Proc.tc.devRef main_arg15)) (m (c, Proc.tc.devRef main_arg16)) (m (c, Proc.tc.devRef main_arg17))

/-- The first convolution's band. -/
theorem v7_entry (o : Fin 2) (κ : Fin 252) (n : Fin 448) : V m c main_v7 (ix3 o κ n)
    = ∑ k ∈ range 3, (if κ.val % 28 + 1 = 2 * (n % 14) + o + k then (1 : EReal) else 0)
        * (kArgs m c).w1 (n / 14) (κ / 28 % 3) (κ / 84) k := by
  rw [← sum_fin]
  unfold_abbrev_sides
  have h : ∀ i j k l, m (c, Proc.tc.devRef main_arg1) (ix4 i j k l) = (kArgs m c).w1 i j k l := fun i j k l => at4_ix _ i j k l
  after_reads_simp; pointwise []
  refine @Finset.sum_congr _ EReal _ _ _ _ _ rfl fun k _ => ?_
  rw [h, lit0_word]
  refine congrArg (· * _) ?_
  split_ifs with h1
  · exact ofBits_one
  · exact Ideal.ofBits_zero_f32

/-- The second convolution's band. -/
theorem v10_entry (kh : Fin 3) (κ : Fin 448) (n : Fin 768) : V m c main_v10 (ix3 kh κ n) = bandSecond (kArgs m c).w2 kh κ n := by
  unfold bandSecond
  rw [← sum_fin]
  unfold_abbrev_sides
  have h : ∀ i j k l, m (c, Proc.tc.devRef main_arg3) (ix4 i j k l) = (kArgs m c).w2 i j k l := fun i j k l => at4_ix _ i j k l
  after_reads_simp; pointwise []
  refine @Finset.sum_congr _ EReal _ _ _ _ _ rfl fun k _ => ?_
  have e1 : n.val % 6 = n % 384 % 6 := by omega
  have e2 : n.val / 6 % 64 = n % 384 / 6 := by omega
  rw [h, lit1_word]
  simp only [e1, e2]
  refine congrArg (· * _) ?_
  split_ifs with h1
  · exact ofBits_one
  · exact Ideal.ofBits_zero_f32

/-- The first dense layer's weights, by row of the feature maps. -/
theorem v13_entry (t : Fin 6) (κ : Fin 384) (n : Fin 512) :
    V m c main_v13 (ix3 t κ n) = (kArgs m c).fc1 n (κ / 6 * 36 + t * 6 + κ % 6) := by
  unfold_abbrev_sides
  have h : ∀ i j, m (c, Proc.tc.devRef main_arg5) (ix2 i j) = (kArgs m c).fc1 i j := fun i j => at2_ix _ i j
  after_reads_simp; pointwise []
  exact h ..

/-- The three bias vectors, the first two spread over their columns. -/
theorem v27_entry (n : Fin 1344) : V m c main_v27 (ix2 0 n)
    = if n.val < 448 then (kArgs m c).b1 (n / 14) else if n.val < 832 then (kArgs m c).b2 ((n - 448) / 6)
      else (kArgs m c).fc1b (n - 832) := by
  unfold_abbrev_sides
  have h1 : ∀ i, m (c, Proc.tc.devRef main_arg2) (ix1 i) = (kArgs m c).b1 i := fun i => at1_ix _ i
  have h2 : ∀ i, m (c, Proc.tc.devRef main_arg4) (ix1 i) = (kArgs m c).b2 i := fun i => at1_ix _ i
  have h3 : ∀ i, m (c, Proc.tc.devRef main_arg6) (ix1 i) = (kArgs m c).fc1b i := fun i => at1_ix _ i
  after_reads_simp; pointwise []; after_reads_simp; pointwise []
  by_cases a1 : n.val < 448
  · rw [dif_pos a1, if_pos a1, h1]
  · rw [dif_neg a1, if_neg a1]
    by_cases a2 : n.val < 832
    · rw [dif_pos (by omega), if_pos a2, h2]
    · rw [dif_neg (by omega), if_neg a2, h3]
      simp only [Nat.sub_sub]

/-- The spins. -/
theorem cst4_entry (k : Fin 256) (q : Fin 8) : V m c main_cst_4 (ix2 k q) = ((spin q k : ℝ) : EReal) := by
  unfold_abbrev_sides
  after_reads_simp; pointwise []
  rw [lit6_word]
  unfold spin
  split_ifs with h
  · exact ofBits_one
  · exact ofBits_neg_one

/-- The biases of the last dense layers, each as a row. -/
theorem v28_entry (j : Fin 64) : V m c main_v28 (ix2 0 j) = (kArgs m c).q2cb j := by
  unfold_abbrev_sides
  have h : ∀ i, m (c, Proc.tc.devRef main_arg10) (ix1 i) = (kArgs m c).q2cb i := fun i => at1_ix _ i
  after_reads_simp; pointwise []
  exact h ..

theorem v29_entry (j : Fin 32) : V m c main_v29 (ix2 0 j) = (kArgs m c).bqb j := by
  unfold_abbrev_sides
  have h : ∀ i, m (c, Proc.tc.devRef main_arg12) (ix1 i) = (kArgs m c).bqb i := fun i => at1_ix _ i
  after_reads_simp; pointwise []
  exact h ..

theorem v30_entry (j : Fin 32) : V m c main_v30 (ix2 0 j) = (kArgs m c).bfb j := by
  unfold_abbrev_sides
  have h : ∀ i, m (c, Proc.tc.devRef main_arg14) (ix1 i) = (kArgs m c).bfb i := fun i => at1_ix _ i
  after_reads_simp; pointwise []
  exact h ..

theorem v31_entry (j : Fin 512) : V m c main_v31 (ix2 0 j) = (kArgs m c).intb j := by
  unfold_abbrev_sides
  have h : ∀ i, m (c, Proc.tc.devRef main_arg16) (ix1 i) = (kArgs m c).intb i := fun i => at1_ix _ i
  after_reads_simp; pointwise []
  exact h ..

theorem v32_entry (j : Fin 10) : V m c main_v32 (ix2 0 j) = (kArgs m c).fc2b j := by
  unfold_abbrev_sides
  have h : ∀ i, m (c, Proc.tc.devRef main_arg8) (ix1 i) = (kArgs m c).fc2b i := fun i => at1_ix _ i
  after_reads_simp; pointwise []
  exact h ..

/-- The images, a zero row above and below, by row. -/
theorem v4_entry (h : Fin 30) (b : Fin 2048) (n : Fin 84) : V m c main_v4 (ix3 h b n)
    = if 1 ≤ h.val ∧ h.val ≤ 28 then (kArgs m c).x b (n / 28) (h - 1) (n % 28) else 0 := by
  unfold_abbrev_sides
  have e : ∀ i j k l, m (c, Proc.tc.devRef main_arg0) (ix4 i j k l) = (kArgs m c).x i j k l := fun i j k l => at4_ix _ i j k l
  after_reads_simp
  simp only [StableHlo.TRef.toBuf, StableHlo.TRef.ofBuf, cast_eq]
  pointwise []
  by_cases hh : 1 ≤ h.val ∧ h.val ≤ 28
  · exact (dif_pos ⟨by omega, ⟨hh.1, by omega⟩, by omega⟩).trans ((e _ _ _ _).trans (if_pos hh).symm)
  · refine (dif_neg (by omega)).trans (Eq.trans ?_ (if_neg hh).symm)
    show (((0#32 : BitVec 32).toInt : ℝ) : EReal) = 0
    simp

/-- The column maps: the mean of each channel's 36 values, then the first eight values themselves. -/
theorem v17_entry (t : Fin 6) (κ : Fin 384) (n : Fin 72) : V m c main_v17 (ix3 t κ n)
    = if n.val < 64 then (if κ.val / 6 = n.val then (((36⁻¹ : ℝ)) : EReal) else 0)
      else if t.val * 6 + κ.val = n.val - 64 ∧ κ.val < 6 then 1 else 0 := by
  unfold_abbrev_sides
  after_reads_simp
  pointwise []
  by_cases hn : n.val < 64
  · refine (dif_pos hn).trans (Eq.trans ?_ (if_pos hn).symm)
    rw [lit2_word κ ⟨n.val, hn⟩, ofBits_thirtysix]
    by_cases h : κ.val / 6 = n.val
    · simp only [if_pos h, ofBits_one]
      rw [show (1 : EReal) = ((1 : ℝ) : EReal) from rfl, div_real _ (by norm_num)]
      norm_num
    · simp only [if_neg h, Ideal.ofBits_zero_f32]
      rw [show (0 : EReal) = ((0 : ℝ) : EReal) from rfl]
      rw [div_real _ (by norm_num)]
      norm_num
  · refine (dif_neg hn).trans (Eq.trans ?_ (if_neg hn).symm)
    rw [lit3_word t κ ⟨n.val - 64, by omega⟩]
    by_cases h : t.val * 6 + κ.val = n.val - 64 ∧ κ.val < 6
    · simp only [if_pos h, ofBits_one]
    · simp only [if_neg h, Ideal.ofBits_zero_f32]

/-- The tables of signed permutations. -/
theorem v21_entry (t : Fin 13) (κ n : Fin 256) : V m c main_v21 (ix3 t κ n)
    = if κ.val = moveRow t n then (((moveSign t n : ℝ)) : EReal) else 0 := by
  unfold_abbrev_sides
  after_reads_simp
  simp only [StableHlo.TRef.toBuf, StableHlo.TRef.ofBuf, cast_eq]
  pointwise []
  simp only [id]
  pointwise []
  have h2 := lit4_word t n
  rw [h2.2, cmpi_eq (by omega) (by omega)]
  by_cases h : κ.val = moveRow t n
  · simp only [if_pos h]
    rcases lit5_word t n with h3 | h3
    · rw [h3.1, h3.2]
      refine ofBits_one.trans ?_
      norm_num
    · rw [h3.1, h3.2]
      refine ofBits_neg_one.trans ?_
      norm_num
  · simp only [if_neg h]
    rfl

/-- Tables that hold `v21`'s are the thirteen. -/
theorem allTables (M : Fin 13 → FVec Ideal S1x256x256 .f32)
    (hM : ∀ t κ n, M t (ix3 0 κ n) = V m c main_v21 (ix3 t κ n)) : AllTables M := by
  have h : ∀ (t : Fin 13) (r : ℕ → ℕ) (ρ : ℕ → ℝ), (∀ k, moveRow t k = r k) → (∀ k, (moveSign t k : ℝ) = ρ k) →
      Moves (M t) r ρ := by
    intro t r ρ hr hρ i k
    refine ⟨hr k ▸ (lit4_word t k).1, ?_⟩
    rw [hM, v21_entry, hr, hρ]
  constructor
  · constructor <;> refine h _ _ _ (fun k => rfl) fun k => ?_ <;> simp [moveSign, isgn_cast]
  · constructor <;> refine h _ _ _ (fun k => rfl) fun k => ?_ <;> simp [moveSign, isgn_cast]
  · constructor <;> refine h _ _ _ (fun k => rfl) fun k => ?_ <;> simp [moveSign, isgn_cast]
  · refine h _ _ _ (fun k => rfl) fun k => ?_
    simp [moveSign]
  · constructor <;> refine h _ _ _ (fun k => rfl) fun k => ?_ <;> simp [moveSign, isgn_cast]

end Cert.Proof

end
-- ==== Proof.KernelConv.lean ====
/- The kernel's two convolution stages, read at an index: the banded contractions are the network's stages. -/
module

public import proofs.«01_k».proof.Proof.Gen.KernelIdeal.Skeleton
public import proofs.«01_k».proof.Proof.Net

@[expose] public section

noncomputable section

namespace Cert.Proof

open Idealize.ShloMosaic Cert.KernelIdeal Cert.KernelIdeal.Gen Cert.Net Finset

set_option maxHeartbeats 1000000 in
/-- The first stage: entry `(h, g, b, o * 14 + s)` is channel `o` at row `2 h + g`, column `s`. -/
theorem pay2_eq (v0 : Vec Ideal S30x256x84 .f32) (v7 v16 : Vec Ideal S1x252x448 .f32) (v26 : Vec Ideal S1x448 .f32)
    (x : ℕ → ℕ → ℕ → ℕ → EReal) (w : ℕ → ℕ → ℕ → ℕ → EReal) (β : ℕ → EReal)
    (hx : ∀ (h : Fin 30) (b : Fin 256) (n : Fin 84), v0 (ix3 h b n)
      = if 1 ≤ h.val ∧ h.val ≤ 28 then x b (n / 28) (h - 1) (n % 28) else 0)
    (h7 : ∀ (κ : Fin 252) (n : Fin 448), v7 (ix3 0 κ n)
      = ∑ k ∈ range 3, (if κ.val % 28 + 1 = 2 * (n % 14) + k then (1 : EReal) else 0) * w (n / 14) (κ / 28 % 3) (κ / 84) k)
    (h16 : ∀ (κ : Fin 252) (n : Fin 448), v16 (ix3 0 κ n)
      = ∑ k ∈ range 3, (if κ.val % 28 + 1 = 2 * (n % 14) + 1 + k then (1 : EReal) else 0) * w (n / 14) (κ / 28 % 3) (κ / 84) k)
    (h26 : ∀ n : Fin 448, v26 (ix2 0 n) = β (n / 14))
    (h : Fin 7) (g : Fin 2) (b : Fin 256) (n : Fin 448) :
    k0_pay2 v0 v7 v16 v26 (ix4 h g b n) = hid (x b) w β (n / 14) (2 * h + g) (n % 14) := by
  pointwise [k0_pay2]
  have e0 : ((h.val * 2 + g) * 512 + b) / 256 = 2 * (2 * h + g) := by omega
  have e1 : ((h.val * 2 + g) * 512 + 256 + b) / 256 = 2 * (2 * h + g) + 1 := by omega
  have key : ∀ (R : ℕ) (κ : Fin 252) (hR : R + 2 < 30),
      (if h_1 : κ.val < 84 then v0 (ix3 ⟨R, by omega⟩ b ⟨κ, h_1⟩)
        else if h_2 : κ.val - 84 < 84 then v0 (ix3 ⟨1 + R, by omega⟩ b ⟨κ - 84, h_2⟩)
          else v0 (ix3 ⟨2 + R, by omega⟩ b ⟨κ - 84 - 84, by omega⟩))
      = (if 1 ≤ R + κ.val / 84 ∧ R + κ.val / 84 ≤ 28 then x b (κ % 84 / 28) (R + κ / 84 - 1) (κ % 84 % 28) else 0) := by
    intro R κ hR
    by_cases h1 : κ.val < 84
    · rw [dif_pos h1, hx]
      simp only [show κ.val / 84 = 0 by omega, show κ.val % 84 = κ by omega, Nat.add_zero]
    · rw [dif_neg h1]
      by_cases h2 : κ.val - 84 < 84
      · rw [dif_pos h2, hx]
        simp only [show κ.val / 84 = 1 by omega, show κ.val % 84 = κ - 84 by omega, Nat.add_comm 1 R]
      · rw [dif_neg h2, hx]
        simp only [show κ.val / 84 = 2 by omega, show κ.val % 84 = κ - 84 - 84 by omega, Nat.add_comm 2 R]
  have dot : ∀ (R q : ℕ) (hR : R + 2 < 30) (W : Fin 252 → EReal),
      (∀ κ : Fin 252, W κ = ∑ k ∈ range 3, (if κ.val % 28 + 1 = q + k then (1 : EReal) else 0) * w (n / 14) (κ / 28 % 3) (κ / 84) k) →
      ∑ κ : Fin 252, (if h_1 : κ.val < 84 then v0 (ix3 ⟨R, by omega⟩ b ⟨κ, h_1⟩)
        else if h_2 : κ.val - 84 < 84 then v0 (ix3 ⟨1 + R, by omega⟩ b ⟨κ - 84, h_2⟩)
          else v0 (ix3 ⟨2 + R, by omega⟩ b ⟨κ - 84 - 84, by omega⟩)) * W κ
      = conv 3 (padded (x b)) (w (n / 14)) R q := by
    intro R q hR W hW
    rw [← conv_band_first]
    rw [← sum_fin]
    exact Finset.sum_congr rfl fun κ _ => by rw [key R κ hR, hW κ]
  simp only [e0, e1]
  have a0 := dot (2 * (2 * h + g)) _ (by omega) _ fun κ => h7 κ n
  have a1 := dot (2 * (2 * h + g) + 1) _ (by omega) _ fun κ => h7 κ n
  have b0 := dot (2 * (2 * h + g)) _ (by omega) _ fun κ => h16 κ n
  have b1 := dot (2 * (2 * h + g) + 1) _ (by omega) _ fun κ => h16 κ n
  simp only [a0, a1, b0, b1, h26, max4_bias]
  rfl

end Cert.Proof

end
-- ==== Proof.KernelTail.lean ====
/- The kernel's rotation angles, its first state, and what it computes from the circuit's last state. -/
module

public import proofs.«01_k».proof.Proof.KernelCircuit
public import proofs.«01_k».proof.Proof.Model

@[expose] public section

noncomputable section

namespace Cert.Proof

open Idealize.ShloMosaic Cert.KernelIdeal Cert.KernelIdeal.Gen Cert.Net Finset

section
variable (v143 : FVec Ideal S256x72 .f32) (v151 : FVec Ideal S256x384 .f32) (v152 : FVec Ideal S1x384x72 .f32)
  (ρ : ℕ → ℕ → EReal) (hρ : ∀ b j, 0 ≤ ρ b j)
  (h19 : ∀ (b : Fin 256) (q : ℕ) (hq : 64 + q < 72), k0_pay19 v143 v151 v152 (ix2 b ⟨64 + q, hq⟩) = ρ b q)
include hρ h19

theorem pay22_reals : Reals (k0_pay22 v143 v151 v152) fun b q => (unit (ρ b) q).toReal := by
  intro b q
  rw [← unit_real _ (hρ b) q q.isLt]
  pointwise [k0_pay22]
  simp only [h19, unit]
  rw [← sum_fin 8 fun j => ρ b j * ρ b j]
  rfl

theorem pay24_reals : Reals (k0_pay24 v143 v151 v152) fun b q => Real.cos ((unit (ρ b) q).toReal / 2) := by
  intro b q
  have h := pay22_reals v143 v151 v152 ρ hρ h19 b q
  pointwise [k0_pay24]
  rw [h, ofBits_half, ← EReal.coe_mul, cos_coe, one_div_mul_eq_div]

theorem pay25_reals : Reals (k0_pay25 v143 v151 v152) fun b q => Real.sin ((unit (ρ b) q).toReal / 2) := by
  intro b q
  have h := pay22_reals v143 v151 v152 ρ hρ h19 b q
  pointwise [k0_pay25]
  rw [h, ofBits_half, ← EReal.coe_mul, sin_coe, one_div_mul_eq_div]

end

theorem pay26_reals (v : FVec Ideal S3x8 .f32) (θ : ℕ → ℕ → ℝ) (h : Reals v θ) :
    Reals (k0_pay26 (F := Ideal) v) fun d q => Real.cos (θ d q / 2) := by
  intro d q
  pointwise [k0_pay26]
  rw [h, ofBits_half, ← EReal.coe_mul, cos_coe, one_div_mul_eq_div]

theorem pay27_reals (v : FVec Ideal S3x8 .f32) (θ : ℕ → ℕ → ℝ) (h : Reals v θ) :
    Reals (k0_pay27 (F := Ideal) v) fun d q => Real.sin (θ d q / 2) := by
  intro d q
  pointwise [k0_pay27]
  rw [h, ofBits_half, ← EReal.coe_mul, sin_coe, one_div_mul_eq_div]

theorem cos_half_add (x y : ℝ) : Real.cos (y / 2) * Real.cos (x / 2) - Real.sin (y / 2) * Real.sin (x / 2) = Real.cos ((y + x) / 2) := by
  rw [add_div, Real.cos_add]

theorem sin_half_add (x y : ℝ) : Real.sin (y / 2) * Real.cos (x / 2) + Real.cos (y / 2) * Real.sin (x / 2) = Real.sin ((y + x) / 2) := by
  rw [add_div, Real.sin_add]

section
variable {v182 v185 : FVec Ideal S256x8 .f32} {v186 : FVec Ideal S3x8 .f32} {x θ : ℕ → ℕ → ℝ}
  (hc : Reals v182 fun b q => Real.cos (x b q / 2)) (hs : Reals v185 fun b q => Real.sin (x b q / 2)) (hθ : Reals v186 θ)

include hs hθ in
/-- The first layer's cosines. -/
theorem cos_first (v143 : FVec Ideal S256x72 .f32) (v151 : FVec Ideal S256x384 .f32) (v152 : FVec Ideal S1x384x72 .f32)
    (hc : Reals (k0_pay24 v143 v151 v152) fun b q => Real.cos (x b q / 2)) :
    Reals (k0_pay30 v185 (k0_pay28 v143 v151 v152 v186) (k0_pay29 v186)) fun b q => Real.cos ((θ 0 q + x b q) / 2) := by
  intro b q
  have e1 := pay26_reals v186 θ hθ 0 q
  have e2 := pay27_reals v186 θ hθ 0 q
  pointwise [k0_pay30, k0_pay28, k0_pay29]
  rw [e1, e2, hc, hs, ← cos_half_add]
  norm_cast

include hc hs hθ in
/-- The first layer's sines. -/
theorem sin_first : Reals (k0_pay31 v182 v185 (k0_pay26 v186) (k0_pay27 v186)) fun b q => Real.sin ((θ 0 q + x b q) / 2) := by
  intro b q
  have e1 := pay26_reals v186 θ hθ 0 q
  have e2 := pay27_reals v186 θ hθ 0 q
  pointwise [k0_pay31]
  rw [e1, e2, hc, hs, ← sin_half_add]
  norm_cast

include hc hs hθ in
/-- The second layer's cosines. -/
theorem cos_second : Reals (k0_pay50 v185 (k0_pay27 v186) (k0_pay49 v182 (k0_pay26 v186)))
    fun b q => Real.cos ((θ 1 q + x b q) / 2) := by
  intro b q
  have e1 := pay26_reals v186 θ hθ 1 q
  have e2 := pay27_reals v186 θ hθ 1 q
  pointwise [k0_pay50, k0_pay49]
  rw [e1, e2, hc, hs, ← cos_half_add]
  norm_cast

include hc hs hθ in
/-- The second layer's sines. -/
theorem sin_second : Reals (k0_pay51 v182 v185 (k0_pay26 v186) (k0_pay27 v186)) fun b q => Real.sin ((θ 1 q + x b q) / 2) := by
  intro b q
  have e1 := pay26_reals v186 θ hθ 1 q
  have e2 := pay27_reals v186 θ hθ 1 q
  pointwise [k0_pay51]
  rw [e1, e2, hc, hs, ← sin_half_add]
  norm_cast

include hc hs hθ in
/-- The third layer's cosines. -/
theorem cos_third : Reals (k0_pay70 v182 v185 (k0_pay27 v186) (k0_pay69 (k0_pay26 v186)))
    fun b q => Real.cos ((θ 2 q + x b q) / 2) := by
  intro b q
  have e1 := pay26_reals v186 θ hθ 2 q
  have e2 := pay27_reals v186 θ hθ 2 q
  pointwise [k0_pay70, k0_pay69]
  rw [e1, e2, hc, hs, ← cos_half_add]
  norm_cast

include hc hs hθ in
/-- The third layer's sines. -/
theorem sin_third : Reals (k0_pay71 v182 v185 (k0_pay26 v186) (k0_pay27 v186)) fun b q => Real.sin ((θ 2 q + x b q) / 2) := by
  intro b q
  have e1 := pay26_reals v186 θ hθ 2 q
  have e2 := pay27_reals v186 θ hθ 2 q
  pointwise [k0_pay71]
  rw [e1, e2, hc, hs, ← sin_half_add]
  norm_cast

end

/-- The kernel's first state. -/
theorem pay23_reals : Reals (k0_pay23 (F := Ideal)) fun _ k => start k := by
  intro b k
  pointwise [k0_pay23]
  unfold start
  have h : ∀ k : Fin 256, IntOp.cmpi CmpIPredicate.eq (BitVec.ofNat 32 k.val) 0#32 = if k.val = 0 then 1#1 else 0#1 := by decide
  rw [h]
  split_ifs
  · rw [show BitVec.setWidth 32 1#1 = 1#32 from rfl]
    show (((1#32 : BitVec 32).toInt : ℝ) : EReal) = _
    simp
  · rw [show BitVec.setWidth 32 0#1 = 0#32 from rfl]
    show (((0#32 : BitVec 32).toInt : ℝ) : EReal) = _
    simp

/-- From the last state's squares to the layer that joins the two halves. -/
theorem pay87_eq (v161 : FVec Ideal S256x512 .f32) (v165 : FVec Ideal S256x64 .f32) (v580 : FVec Ideal S256x256 .f32)
    (v581 : FVec Ideal S256x8 .f32) (v583 : FVec Ideal S64x8 .f32) (v585 : FVec Ideal S1x64 .f32) (v589 : FVec Ideal S32x64 .f32)
    (v591 : FVec Ideal S1x32 .f32) (v596 : FVec Ideal S32x64 .f32) (v598 : FVec Ideal S1x32 .f32) (v604 : FVec Ideal S512x544 .f32)
    (v610 : FVec Ideal S1x512 .f32) (v614 : FVec Ideal S10x512 .f32) (v616 : FVec Ideal S1x10 .f32) (a : Args) (β : ℕ)
    (b : Fin 256)
    (h161 : ∀ n : Fin 512, v161 (ix2 b n) = a.classical β n)
    (h165 : ∀ c : Fin 64, v165 (ix2 b c) = Ideal.sin (a.mean β c * turn))
    (h580 : ∀ q : Fin 8, ∑ k : Fin 256, v580 (ix2 b k) * v581 (ix2 k q) = ((a.spins β q : ℝ) : EReal))
    (h583 : ∀ (i : Fin 64) (j : Fin 8), v583 (ix2 i j) = a.q2c i j) (h585 : ∀ j : Fin 64, v585 (ix2 0 j) = a.q2cb j)
    (h589 : ∀ (i : Fin 32) (j : Fin 64), v589 (ix2 i j) = a.bq i j) (h591 : ∀ j : Fin 32, v591 (ix2 0 j) = a.bqb j)
    (h596 : ∀ (i : Fin 32) (j : Fin 64), v596 (ix2 i j) = a.bf i j) (h598 : ∀ j : Fin 32, v598 (ix2 0 j) = a.bfb j)
    (h604 : ∀ (i : Fin 512) (j : Fin 544), v604 (ix2 i j) = a.int i j) (h610 : ∀ j : Fin 512, v610 (ix2 0 j) = a.intb j)
    (h614 : ∀ (i : Fin 10) (j : Fin 512), v614 (ix2 i j) = a.fc2 i j) (h616 : ∀ j : Fin 10, v616 (ix2 0 j) = a.fc2b j)
    (o : Fin 10) :
    k0_pay1 (k0_pay87 v161 v165 v580 v581 v583 v585 v589 v591 v596 v598 v604 v610) v614 v616 (ix2 b o) = a.result β o := by
  pointwise [k0_pay1, k0_pay87]
  simp only [h161, h165, h580, h583, h585, h589, h591, h596, h598, h604, h610, h614, h616]
  simp only [Args.result, Args.joined, Args.fused, Args.quantum, ← sum_fin]

end Cert.Proof

end
-- ==== Proof.Rows.lean ====
/- The kernel's sums over the rows of the feature maps, as the network's. -/
module

public import proofs.«01_k».proof.Proof.KernelDense
public import proofs.«01_k».proof.Proof.Model

@[expose] public section

noncomputable section

namespace Cert.Proof

open Cert.Net Finset

variable (a : Args) (b : ℕ)

/-- Row `t` of the feature maps, channel after channel. -/
def rowOf (t κ : ℕ) : EReal := a.map b (κ / 6) t (κ % 6)

/-- A sum over the rows, channel by channel. -/
theorem overRows_channels (g : ℕ → ℕ → EReal) :
    overRows (rowOf a b) g = ∑ t ∈ range 6, ∑ c ∈ range 64, ∑ w ∈ range 6, a.map b c t w * g t (c * 6 + w) := by
  unfold overRows
  refine sum_congr rfl fun t _ => ?_
  rw [show 384 = 64 * 6 from rfl, sum_range_mul]
  refine sum_congr rfl fun c _ => sum_congr rfl fun w hw => ?_
  have hw := mem_range.1 hw
  unfold rowOf
  rw [show (c * 6 + w) / 6 = c from by omega, show (c * 6 + w) % 6 = w from by omega]

/-- The products with a dense layer's weights. -/
theorem overRows_dense (v : ℕ → EReal) :
    overRows (rowOf a b) (fun t κ => v (κ / 6 * 36 + t * 6 + κ % 6)) = ∑ k ∈ range 2304, a.flat b k * v k := by
  rw [overRows_channels, sum_comm, show 2304 = 64 * 36 from rfl, sum_range_mul]
  refine sum_congr rfl fun c _ => ?_
  rw [show range 36 = range (6 * 6) from rfl, sum_range_mul]
  refine sum_congr rfl fun t ht => sum_congr rfl fun w hw => ?_
  have ht := mem_range.1 ht
  have hw := mem_range.1 hw
  unfold Args.flat
  rw [show (c * 6 + w) / 6 = c from by omega, show (c * 6 + w) % 6 = w from by omega,
    show (c * 36 + (t * 6 + w)) / 36 = c from by omega, show (c * 36 + (t * 6 + w)) / 6 % 6 = t from by omega,
    show (c * 36 + (t * 6 + w)) % 6 = w from by omega, Nat.add_assoc]

/-- The mean of a channel. -/
theorem overRows_mean {c : ℕ} (hc : c < 64) :
    overRows (rowOf a b) (fun _ κ => if κ / 6 = c then (((36⁻¹ : ℝ)) : EReal) else 0) = a.mean b c := by
  rw [overRows_channels]
  unfold Args.mean
  rw [sum_mul_real _ _ _ (by norm_num)]
  refine sum_congr rfl fun t _ => ?_
  rw [sum_mul_real _ _ _ (by norm_num), sum_eq_single_of_mem c (mem_range.2 hc)]
  · refine sum_congr rfl fun w hw => ?_
    have hw := mem_range.1 hw
    rw [if_pos (by omega)]
  · intro d _ hd
    refine sum_eq_zero fun w hw => ?_
    have hw := mem_range.1 hw
    rw [if_neg (by omega), mul_zero]

/-- The first eight features. -/
theorem overRows_first {q : ℕ} (hq : q < 8) :
    overRows (rowOf a b) (fun t κ => if t * 6 + κ = q ∧ κ < 6 then 1 else 0) = a.flat b q := by
  unfold overRows
  rw [sum_eq_single_of_mem (q / 6) (mem_range.2 (by omega)), sum_eq_single_of_mem (q % 6) (mem_range.2 (by omega))]
  · beta_reduce
    rw [if_pos (by omega), mul_one]
    unfold rowOf Args.flat
    rw [show q % 6 / 6 = q / 36 from by omega, show q / 6 % 6 = q / 6 from by omega, Nat.mod_mod]
  · intro κ _ hκ
    beta_reduce
    rw [if_neg (by omega), mul_zero]
  · intro t _ ht
    refine sum_eq_zero fun κ _ => ?_
    beta_reduce
    rw [if_neg (by omega), mul_zero]

end Cert.Proof

end
-- ==== Proof.KernelBlock.lean ====
/- One block of the kernel: the network's results at the block's rows. -/
module

public import proofs.«01_k».proof.Proof.Gen.KernelIdeal.Value
public import proofs.«01_k».proof.Proof.KernelConv
public import proofs.«01_k».proof.Proof.KernelTail
public import proofs.«01_k».proof.Proof.Rows

@[expose] public section

noncomputable section

namespace Cert.Proof

open Idealize.ShloMosaic Cert.KernelIdeal Cert.KernelIdeal.Gen Cert.Net Finset

variable (x0 : Vec Ideal S30x256x84 .f32) (x1 : Vec Ideal S2x252x448 .f32) (x2 : Vec Ideal S3x448x768 .f32)
  (x3 : Vec Ideal S6x384x512 .f32) (x4 : Vec Ideal S6x384x72 .f32) (x5 : Vec Ideal S1x1344 .f32) (x6 : Vec Ideal S3x8 .f32)
  (x7 : Vec Ideal S13x256x256 .f32) (x8 : Vec Ideal S256x8 .f32) (x9 : Vec Ideal S64x8 .f32) (x10 : Vec Ideal S1x64 .f32)
  (x11 : Vec Ideal S32x64 .f32) (x12 : Vec Ideal S1x32 .f32) (x13 : Vec Ideal S32x64 .f32) (x14 : Vec Ideal S1x32 .f32)
  (x15 : Vec Ideal S512x544 .f32) (x16 : Vec Ideal S1x512 .f32) (x17 : Vec Ideal S10x512 .f32) (x18 : Vec Ideal S1x10 .f32)
  (a : Args) (s : ℕ)

/-- The arrays of a block whose rows start at `s`, in terms of the network's arguments. -/
structure Block : Prop where
  x : ∀ (h : Fin 30) (b : Fin 256) (n : Fin 84),
    x0 (ix3 h b n) = if 1 ≤ h.val ∧ h.val ≤ 28 then a.x (s + b) (n / 28) (h - 1) (n % 28) else 0
  w1 : ∀ (o : Fin 2) (κ : Fin 252) (n : Fin 448), x1 (ix3 o κ n)
    = ∑ k ∈ range 3, (if κ.val % 28 + 1 = 2 * (n % 14) + o + k then (1 : EReal) else 0) * a.w1 (n / 14) (κ / 28 % 3) (κ / 84) k
  w2 : ∀ (kh : Fin 3) (κ : Fin 448) (n : Fin 768), x2 (ix3 kh κ n) = bandSecond a.w2 kh κ n
  fc1 : ∀ (t : Fin 6) (κ : Fin 384) (n : Fin 512), x3 (ix3 t κ n) = a.fc1 n (κ / 6 * 36 + t * 6 + κ % 6)
  maps : ∀ (t : Fin 6) (κ : Fin 384) (n : Fin 72), x4 (ix3 t κ n)
    = if n.val < 64 then (if κ.val / 6 = n.val then (((36⁻¹ : ℝ)) : EReal) else 0)
      else if t.val * 6 + κ.val = n.val - 64 ∧ κ.val < 6 then 1 else 0
  bias : ∀ n : Fin 1344, x5 (ix2 0 n)
    = if n.val < 448 then a.b1 (n / 14) else if n.val < 832 then a.b2 ((n - 448) / 6) else a.fc1b (n - 832)
  θ : Reals x6 a.θ
  tables : ∀ M : Fin 13 → FVec Ideal S1x256x256 .f32, (∀ t κ n, M t (ix3 0 κ n) = x7 (ix3 t κ n)) → AllTables M
  spins : ∀ (k : Fin 256) (q : Fin 8), x8 (ix2 k q) = ((spin q k : ℝ) : EReal)
  q2c : ∀ (i : Fin 64) (j : Fin 8), x9 (ix2 i j) = a.q2c i j
  q2cb : ∀ j : Fin 64, x10 (ix2 0 j) = a.q2cb j
  bq : ∀ (i : Fin 32) (j : Fin 64), x11 (ix2 i j) = a.bq i j
  bqb : ∀ j : Fin 32, x12 (ix2 0 j) = a.bqb j
  bf : ∀ (i : Fin 32) (j : Fin 64), x13 (ix2 i j) = a.bf i j
  bfb : ∀ j : Fin 32, x14 (ix2 0 j) = a.bfb j
  int : ∀ (i : Fin 512) (j : Fin 544), x15 (ix2 i j) = a.int i j
  intb : ∀ j : Fin 512, x16 (ix2 0 j) = a.intb j
  fc2 : ∀ (i : Fin 10) (j : Fin 512), x17 (ix2 i j) = a.fc2 i j
  fc2b : ∀ j : Fin 10, x18 (ix2 0 j) = a.fc2b j

variable (h : Block x0 x1 x2 x3 x4 x5 x6 x7 x8 x9 x10 x11 x12 x13 x14 x15 x16 x17 x18 a s)
include h

/-- The first stage's rows. -/
theorem block_hid (t : Fin 7) (g : Fin 2) (b : Fin 256) (n : Fin 448) :
    k0_pay2 (View.ld x0 r0_0) (View.ld x1 r0_1) (View.ld x1 r0_2) (View.ld x5 r0_3) (ix4 t g b n)
      = hid (a.x (s + b)) a.w1 a.b1 (n / 14) (2 * t + g) (n % 14) := by
  refine pay2_eq _ _ _ _ (fun b => a.x (s + b)) a.w1 a.b1 ?_ ?_ ?_ ?_ t g b n
  · intro t b n
    pointwise []
    exact h.x t b n
  · intro κ n
    pointwise []
    exact h.w1 0 κ n
  · intro κ n
    pointwise []
    exact h.w1 1 κ n
  · intro n
    pointwise []
    exact (h.bias ⟨n, by omega⟩).trans (if_pos n.isLt)

/-- The second stage's rows. -/
theorem block_map (t : Fin 6) (b : Fin 256) (κ : Fin 384) :
    k0_pay89 x0 x1 x2 x3 x4 x5 x6 x7 x8 x9 x10 x11 x12 x13 x14 x15 x16 x17 x18 (ix3 t b κ) = rowOf a (s + b) t κ := by
  have e : ∀ (t g i : ℕ) (ht : t < 7) (hg : g < 2) (_ : 2 * t + g = i) (b : Fin 256) (n : Fin 448),
      k0_pay2 (View.ld x0 r0_0) (View.ld x1 r0_1) (View.ld x1 r0_2) (View.ld x5 r0_3) (ix4 ⟨t, ht⟩ ⟨g, hg⟩ b n)
        = hid (a.x (s + b)) a.w1 a.b1 (n / 14) i (n % 14) := by
    intro t g i ht hg hi b n
    subst hi
    exact block_hid x0 x1 x2 x3 x4 x5 x6 x7 x8 x9 x10 x11 x12 x13 x14 x15 x16 x17 x18 a s h ⟨t, ht⟩ ⟨g, hg⟩ b n
  unfold k0_pay89 k0_pay88
  refine pay12_eq _ _ (fun b => hid (a.x (s + b)) a.w1 a.b1) a.w2 a.b2 ?_ ?_ t b κ
  · intro r n
    refine pay11_eq _ _ _ _ _ _ _ _ _ (fun b => hid (a.x (s + b)) a.w1 a.b1) a.w2 ?_ ?_ ?_ ?_ ?_ ?_ ?_ ?_ ?_ r n
    · intro r κ
      pointwise [k0_pay10, k0_pay3]
      exact e (r / 256) 0 _ (by omega) (by omega) (by omega) ⟨r % 256, by omega⟩ κ
    · intro t b κ
      pointwise [k0_pay5, k0_pay4]
      exact e (t) 1 _ (by omega) (by omega) (by omega) b κ
    · intro t b κ
      pointwise [k0_pay6, k0_pay3]
      exact e _ 0 (2 * t + 2) (by omega) (by omega) (by omega) b κ
    · intro t b κ
      pointwise [k0_pay7, k0_pay4]
      exact e (t) 1 _ (by omega) (by omega) (by omega) b κ
    · intro t b κ
      pointwise [k0_pay8, k0_pay3]
      exact e _ 0 (2 * t + 2) (by omega) (by omega) (by omega) b κ
    · intro t b κ
      pointwise [k0_pay9, k0_pay4]
      exact e _ 1 (2 * t + 3) (by omega) (by omega) (by omega) b κ
    · intro κ n
      pointwise []
      exact h.w2 0 κ n
    · intro κ n
      pointwise []
      exact h.w2 1 κ n
    · intro κ n
      pointwise []
      exact h.w2 2 κ n
  · intro n
    pointwise []
    refine (h.bias ⟨448 + n, by omega⟩).trans ?_
    rw [if_neg (by simp), if_pos (by simp; omega)]
    simp

/-- The means and the first eight features, as sums over the rows. -/
theorem block_maps (b : Fin 256) (n : Fin 72) :
    k0_pay19 (k0_pay90 x0 x1 x2 x3 x4 x5 x6 x7 x8 x9 x10 x11 x12 x13 x14 x15 x16 x17 x18) (k0_pay91 x0 x1 x2 x3 x4 x5 x6 x7 x8 x9 x10 x11 x12 x13 x14 x15 x16 x17 x18) (View.ld x4 r0_19) (ix2 b n)
      = overRows (rowOf a (s + b)) fun t κ => if n.val < 64 then (if κ / 6 = n.val then (((36⁻¹ : ℝ)) : EReal) else 0)
        else if t * 6 + κ = n.val - 64 ∧ κ < 6 then 1 else 0 := by
  unfold k0_pay90 k0_pay91
  refine pay19_eq _ _ (fun b => rowOf a (s + b)) (block_map x0 x1 x2 x3 x4 x5 x6 x7 x8 x9 x10 x11 x12 x13 x14 x15 x16 x17 x18 a s h) _ _ _ _ _ _
    (fun t κ n => if n < 64 then (if κ / 6 = n then (((36⁻¹ : ℝ)) : EReal) else 0)
      else if t * 6 + κ = n - 64 ∧ κ < 6 then 1 else 0) ?_ ?_ ?_ ?_ ?_ ?_ b n
  · intro κ n
    pointwise []
    simpa using h.maps 0 κ n
  · intro κ n
    pointwise []
    exact h.maps 1 κ n
  · intro κ n
    pointwise []
    exact h.maps 2 κ n
  · intro κ n
    pointwise []
    exact h.maps 3 κ n
  · intro κ n
    pointwise []
    exact h.maps 4 κ n
  · intro κ n
    pointwise []
    exact h.maps 5 κ n

theorem block_first (b : Fin 256) (q : ℕ) (hq : 64 + q < 72) :
    k0_pay19 (k0_pay90 x0 x1 x2 x3 x4 x5 x6 x7 x8 x9 x10 x11 x12 x13 x14 x15 x16 x17 x18) (k0_pay91 x0 x1 x2 x3 x4 x5 x6 x7 x8 x9 x10 x11 x12 x13 x14 x15 x16 x17 x18) (View.ld x4 r0_19) (ix2 b ⟨64 + q, hq⟩) = a.flat (s + b) q := by
  rw [block_maps x0 x1 x2 x3 x4 x5 x6 x7 x8 x9 x10 x11 x12 x13 x14 x15 x16 x17 x18 a s h, ← overRows_first a (s + b) (q := q) (by omega)]
  simp

/-- The sines of the means. -/
theorem block_mean (b : Fin 256) (c : Fin 64) :
    k0_pay21 (k0_pay90 x0 x1 x2 x3 x4 x5 x6 x7 x8 x9 x10 x11 x12 x13 x14 x15 x16 x17 x18) (k0_pay91 x0 x1 x2 x3 x4 x5 x6 x7 x8 x9 x10 x11 x12 x13 x14 x15 x16 x17 x18) (View.ld x4 r0_19) (ix2 b c) = Ideal.sin (a.mean (s + b) c * turn) := by
  have e := block_maps x0 x1 x2 x3 x4 x5 x6 x7 x8 x9 x10 x11 x12 x13 x14 x15 x16 x17 x18 a s h b ⟨c, by omega⟩
  generalize hp : k0_pay19 (k0_pay90 x0 x1 x2 x3 x4 x5 x6 x7 x8 x9 x10 x11 x12 x13 x14 x15 x16 x17 x18) (k0_pay91 x0 x1 x2 x3 x4 x5 x6 x7 x8 x9 x10 x11 x12 x13 x14 x15 x16 x17 x18) (View.ld x4 r0_19) = p at *
  pointwise [k0_pay21]
  rw [hp, e, ← overRows_mean a (s + b) c.isLt]
  simp only [c.isLt, if_true]
  rfl

/-- The first dense layer. -/
theorem block_classical (b : Fin 256) (n : Fin 512) :
    k0_pay20 (k0_pay17 (k0_pay89 x0 x1 x2 x3 x4 x5 x6 x7 x8 x9 x10 x11 x12 x13 x14 x15 x16 x17 x18) (k0_pay14 (k0_pay88 x0 x1 x2 x3 x4 x5 x6 x7 x8 x9 x10 x11 x12 x13 x14 x15 x16 x17 x18) (View.ld x5 r0_7) (View.ld x3 r0_8) (View.ld x3 r0_10)
      (View.ld x3 r0_12)) (View.ld x3 r0_14) (View.ld x3 r0_16) (View.ld x3 r0_18)) (View.ld x5 r0_20) (ix2 b n)
      = a.classical (s + b) n := by
  have e := block_map x0 x1 x2 x3 x4 x5 x6 x7 x8 x9 x10 x11 x12 x13 x14 x15 x16 x17 x18 a s h
  unfold k0_pay89 at e ⊢
  refine (pay20_eq _ _ (fun b => rowOf a (s + b)) e _ _ _ _ _ _ _
    (fun t κ n => a.fc1 n (κ / 6 * 36 + t * 6 + κ % 6)) a.fc1b ?_ ?_ ?_ ?_ ?_ ?_ ?_ b n).trans ?_
  · intro κ n
    pointwise []
    exact h.fc1 0 κ n
  · intro κ n
    pointwise []
    exact h.fc1 1 κ n
  · intro κ n
    pointwise []
    exact h.fc1 2 κ n
  · intro κ n
    pointwise []
    exact h.fc1 3 κ n
  · intro κ n
    pointwise []
    exact h.fc1 4 κ n
  · intro κ n
    pointwise []
    exact h.fc1 5 κ n
  · intro n
    pointwise []
    refine (h.bias ⟨832 + n, by omega⟩).trans ?_
    rw [if_neg (by simp; omega), if_neg (by simp)]
    simp
  · unfold Args.classical
    rw [← overRows_dense]

end Cert.Proof

end
-- ==== Proof.KernelState.lean ====
/- The circuit's last state over one block of the kernel, and the block's results. -/
module

public import proofs.«01_k».proof.Proof.KernelBlock
public import Idealize.ShloMosaic.Lib.Pipeline.ValueKit.Geometry

@[expose] public section

noncomputable section

namespace Cert.Proof

open Idealize.ShloMosaic Cert.KernelIdeal Cert.KernelIdeal.Gen Cert.Net Finset

variable (x0 : Vec Ideal S30x256x84 .f32) (x1 : Vec Ideal S2x252x448 .f32) (x2 : Vec Ideal S3x448x768 .f32)
  (x3 : Vec Ideal S6x384x512 .f32) (x4 : Vec Ideal S6x384x72 .f32) (x5 : Vec Ideal S1x1344 .f32) (x6 : Vec Ideal S3x8 .f32)
  (x7 : Vec Ideal S13x256x256 .f32) (x8 : Vec Ideal S256x8 .f32) (x9 : Vec Ideal S64x8 .f32) (x10 : Vec Ideal S1x64 .f32)
  (x11 : Vec Ideal S32x64 .f32) (x12 : Vec Ideal S1x32 .f32) (x13 : Vec Ideal S32x64 .f32) (x14 : Vec Ideal S1x32 .f32)
  (x15 : Vec Ideal S512x544 .f32) (x16 : Vec Ideal S1x512 .f32) (x17 : Vec Ideal S10x512 .f32) (x18 : Vec Ideal S1x10 .f32)
  (a : Args) (s : ℕ)

/-- The tables, one by one. -/
def tablesOf : Fin 13 → FVec Ideal S1x256x256 .f32 := ![View.ld x7 r0_22, View.ld x7 r0_23, View.ld x7 r0_24,
  View.ld x7 r0_25, View.ld x7 r0_26, View.ld x7 r0_27, View.ld x7 r0_28, View.ld x7 r0_29, View.ld x7 r0_30,
  View.ld x7 r0_31, View.ld x7 r0_32, View.ld x7 r0_33, View.ld x7 r0_34]

/-- The state after the first layer. -/
def stateOne : FVec Ideal S256x256 .f32 :=
  k0_pay48 (k0_pay99 x0 x1 x2 x3 x4 x5 x6 x7 x8 x9 x10 x11 x12 x13 x14 x15 x16 x17 x18) (k0_pay100 x0 x1 x2 x3 x4 x5 x6 x7 x8 x9 x10 x11 x12 x13 x14 x15 x16 x17 x18) (k0_pay39 (k0_pay99 x0 x1 x2 x3 x4 x5 x6 x7 x8 x9 x10 x11 x12 x13 x14 x15 x16 x17 x18)) (k0_pay40 (k0_pay100 x0 x1 x2 x3 x4 x5 x6 x7 x8 x9 x10 x11 x12 x13 x14 x15 x16 x17 x18)) (k0_pay42 (k0_pay100 x0 x1 x2 x3 x4 x5 x6 x7 x8 x9 x10 x11 x12 x13 x14 x15 x16 x17 x18))
    (k0_pay43 (k0_pay101 x0 x1 x2 x3 x4 x5 x6 x7 x8 x9 x10 x11 x12 x13 x14 x15 x16 x17 x18) (k0_pay102 x0 x1 x2 x3 x4 x5 x6 x7 x8 x9 x10 x11 x12 x13 x14 x15 x16 x17 x18) (k0_pay103 x0 x1 x2 x3 x4 x5 x6 x7 x8 x9 x10 x11 x12 x13 x14 x15 x16 x17 x18) (k0_pay104 x0 x1 x2 x3 x4 x5 x6 x7 x8 x9 x10 x11 x12 x13 x14 x15 x16 x17 x18) (k0_pay105 x0 x1 x2 x3 x4 x5 x6 x7 x8 x9 x10 x11 x12 x13 x14 x15 x16 x17 x18) (k0_pay106 x0 x1 x2 x3 x4 x5 x6 x7 x8 x9 x10 x11 x12 x13 x14 x15 x16 x17 x18) (k0_pay98 x0 x1 x2 x3 x4 x5 x6 x7 x8 x9 x10 x11 x12 x13 x14 x15 x16 x17 x18) (View.ld x7 r0_26) (View.ld x7 r0_27) (View.ld x7 r0_28))
    (k0_pay44 (k0_pay101 x0 x1 x2 x3 x4 x5 x6 x7 x8 x9 x10 x11 x12 x13 x14 x15 x16 x17 x18) (k0_pay102 x0 x1 x2 x3 x4 x5 x6 x7 x8 x9 x10 x11 x12 x13 x14 x15 x16 x17 x18) (k0_pay103 x0 x1 x2 x3 x4 x5 x6 x7 x8 x9 x10 x11 x12 x13 x14 x15 x16 x17 x18) (k0_pay104 x0 x1 x2 x3 x4 x5 x6 x7 x8 x9 x10 x11 x12 x13 x14 x15 x16 x17 x18) (k0_pay105 x0 x1 x2 x3 x4 x5 x6 x7 x8 x9 x10 x11 x12 x13 x14 x15 x16 x17 x18) (k0_pay106 x0 x1 x2 x3 x4 x5 x6 x7 x8 x9 x10 x11 x12 x13 x14 x15 x16 x17 x18) (k0_pay98 x0 x1 x2 x3 x4 x5 x6 x7 x8 x9 x10 x11 x12 x13 x14 x15 x16 x17 x18) (View.ld x7 r0_26) (View.ld x7 r0_27) (View.ld x7 r0_29))
    (k0_pay45 (k0_pay101 x0 x1 x2 x3 x4 x5 x6 x7 x8 x9 x10 x11 x12 x13 x14 x15 x16 x17 x18) (k0_pay102 x0 x1 x2 x3 x4 x5 x6 x7 x8 x9 x10 x11 x12 x13 x14 x15 x16 x17 x18) (k0_pay103 x0 x1 x2 x3 x4 x5 x6 x7 x8 x9 x10 x11 x12 x13 x14 x15 x16 x17 x18) (k0_pay104 x0 x1 x2 x3 x4 x5 x6 x7 x8 x9 x10 x11 x12 x13 x14 x15 x16 x17 x18) (k0_pay105 x0 x1 x2 x3 x4 x5 x6 x7 x8 x9 x10 x11 x12 x13 x14 x15 x16 x17 x18) (k0_pay106 x0 x1 x2 x3 x4 x5 x6 x7 x8 x9 x10 x11 x12 x13 x14 x15 x16 x17 x18) (k0_pay98 x0 x1 x2 x3 x4 x5 x6 x7 x8 x9 x10 x11 x12 x13 x14 x15 x16 x17 x18) (View.ld x7 r0_26) (View.ld x7 r0_27) (View.ld x7 r0_30))
    (k0_pay46 (k0_pay99 x0 x1 x2 x3 x4 x5 x6 x7 x8 x9 x10 x11 x12 x13 x14 x15 x16 x17 x18) (k0_pay101 x0 x1 x2 x3 x4 x5 x6 x7 x8 x9 x10 x11 x12 x13 x14 x15 x16 x17 x18) (k0_pay102 x0 x1 x2 x3 x4 x5 x6 x7 x8 x9 x10 x11 x12 x13 x14 x15 x16 x17 x18) (k0_pay103 x0 x1 x2 x3 x4 x5 x6 x7 x8 x9 x10 x11 x12 x13 x14 x15 x16 x17 x18) (k0_pay104 x0 x1 x2 x3 x4 x5 x6 x7 x8 x9 x10 x11 x12 x13 x14 x15 x16 x17 x18) (k0_pay105 x0 x1 x2 x3 x4 x5 x6 x7 x8 x9 x10 x11 x12 x13 x14 x15 x16 x17 x18) (k0_pay106 x0 x1 x2 x3 x4 x5 x6 x7 x8 x9 x10 x11 x12 x13 x14 x15 x16 x17 x18) (k0_pay98 x0 x1 x2 x3 x4 x5 x6 x7 x8 x9 x10 x11 x12 x13 x14 x15 x16 x17 x18) (View.ld x7 r0_26) (View.ld x7 r0_27))
    (k0_pay47 (k0_pay99 x0 x1 x2 x3 x4 x5 x6 x7 x8 x9 x10 x11 x12 x13 x14 x15 x16 x17 x18) (k0_pay100 x0 x1 x2 x3 x4 x5 x6 x7 x8 x9 x10 x11 x12 x13 x14 x15 x16 x17 x18))
    (View.ld x7 r0_31) (View.ld x7 r0_32) (View.ld x7 r0_33) (View.ld x7 r0_34)

/-- The state after the second layer. -/
def stateTwo : FVec Ideal S256x256 .f32 :=
  k0_pay68 (k0_pay108 x0 x1 x2 x3 x4 x5 x6 x7 x8 x9 x10 x11 x12 x13 x14 x15 x16 x17 x18) (k0_pay109 x0 x1 x2 x3 x4 x5 x6 x7 x8 x9 x10 x11 x12 x13 x14 x15 x16 x17 x18) (k0_pay59 (k0_pay108 x0 x1 x2 x3 x4 x5 x6 x7 x8 x9 x10 x11 x12 x13 x14 x15 x16 x17 x18)) (k0_pay60 (k0_pay109 x0 x1 x2 x3 x4 x5 x6 x7 x8 x9 x10 x11 x12 x13 x14 x15 x16 x17 x18)) (k0_pay62 (k0_pay109 x0 x1 x2 x3 x4 x5 x6 x7 x8 x9 x10 x11 x12 x13 x14 x15 x16 x17 x18))
    (k0_pay63 (k0_pay110 x0 x1 x2 x3 x4 x5 x6 x7 x8 x9 x10 x11 x12 x13 x14 x15 x16 x17 x18) (k0_pay111 x0 x1 x2 x3 x4 x5 x6 x7 x8 x9 x10 x11 x12 x13 x14 x15 x16 x17 x18) (k0_pay112 x0 x1 x2 x3 x4 x5 x6 x7 x8 x9 x10 x11 x12 x13 x14 x15 x16 x17 x18) (k0_pay113 x0 x1 x2 x3 x4 x5 x6 x7 x8 x9 x10 x11 x12 x13 x14 x15 x16 x17 x18) (k0_pay114 x0 x1 x2 x3 x4 x5 x6 x7 x8 x9 x10 x11 x12 x13 x14 x15 x16 x17 x18) (k0_pay115 x0 x1 x2 x3 x4 x5 x6 x7 x8 x9 x10 x11 x12 x13 x14 x15 x16 x17 x18) (View.ld x7 r0_26) (View.ld x7 r0_27) (View.ld x7 r0_28))
    (k0_pay64 (k0_pay110 x0 x1 x2 x3 x4 x5 x6 x7 x8 x9 x10 x11 x12 x13 x14 x15 x16 x17 x18) (k0_pay111 x0 x1 x2 x3 x4 x5 x6 x7 x8 x9 x10 x11 x12 x13 x14 x15 x16 x17 x18) (k0_pay112 x0 x1 x2 x3 x4 x5 x6 x7 x8 x9 x10 x11 x12 x13 x14 x15 x16 x17 x18) (k0_pay113 x0 x1 x2 x3 x4 x5 x6 x7 x8 x9 x10 x11 x12 x13 x14 x15 x16 x17 x18) (k0_pay114 x0 x1 x2 x3 x4 x5 x6 x7 x8 x9 x10 x11 x12 x13 x14 x15 x16 x17 x18) (k0_pay115 x0 x1 x2 x3 x4 x5 x6 x7 x8 x9 x10 x11 x12 x13 x14 x15 x16 x17 x18) (View.ld x7 r0_26) (View.ld x7 r0_27) (View.ld x7 r0_29))
    (k0_pay65 (k0_pay110 x0 x1 x2 x3 x4 x5 x6 x7 x8 x9 x10 x11 x12 x13 x14 x15 x16 x17 x18) (k0_pay111 x0 x1 x2 x3 x4 x5 x6 x7 x8 x9 x10 x11 x12 x13 x14 x15 x16 x17 x18) (k0_pay112 x0 x1 x2 x3 x4 x5 x6 x7 x8 x9 x10 x11 x12 x13 x14 x15 x16 x17 x18) (k0_pay113 x0 x1 x2 x3 x4 x5 x6 x7 x8 x9 x10 x11 x12 x13 x14 x15 x16 x17 x18) (k0_pay114 x0 x1 x2 x3 x4 x5 x6 x7 x8 x9 x10 x11 x12 x13 x14 x15 x16 x17 x18) (k0_pay115 x0 x1 x2 x3 x4 x5 x6 x7 x8 x9 x10 x11 x12 x13 x14 x15 x16 x17 x18) (View.ld x7 r0_26) (View.ld x7 r0_27) (View.ld x7 r0_30))
    (k0_pay66 (k0_pay108 x0 x1 x2 x3 x4 x5 x6 x7 x8 x9 x10 x11 x12 x13 x14 x15 x16 x17 x18) (k0_pay110 x0 x1 x2 x3 x4 x5 x6 x7 x8 x9 x10 x11 x12 x13 x14 x15 x16 x17 x18) (k0_pay111 x0 x1 x2 x3 x4 x5 x6 x7 x8 x9 x10 x11 x12 x13 x14 x15 x16 x17 x18) (k0_pay112 x0 x1 x2 x3 x4 x5 x6 x7 x8 x9 x10 x11 x12 x13 x14 x15 x16 x17 x18) (k0_pay113 x0 x1 x2 x3 x4 x5 x6 x7 x8 x9 x10 x11 x12 x13 x14 x15 x16 x17 x18) (k0_pay114 x0 x1 x2 x3 x4 x5 x6 x7 x8 x9 x10 x11 x12 x13 x14 x15 x16 x17 x18) (k0_pay115 x0 x1 x2 x3 x4 x5 x6 x7 x8 x9 x10 x11 x12 x13 x14 x15 x16 x17 x18) (View.ld x7 r0_26) (View.ld x7 r0_27))
    (k0_pay67 (k0_pay108 x0 x1 x2 x3 x4 x5 x6 x7 x8 x9 x10 x11 x12 x13 x14 x15 x16 x17 x18) (k0_pay109 x0 x1 x2 x3 x4 x5 x6 x7 x8 x9 x10 x11 x12 x13 x14 x15 x16 x17 x18))
    (View.ld x7 r0_31) (View.ld x7 r0_32) (View.ld x7 r0_33) (View.ld x7 r0_34)

/-- The squares of the amplitudes after the third layer. -/
def squares : FVec Ideal S256x256 .f32 :=
  k0_pay86 (k0_pay117 x0 x1 x2 x3 x4 x5 x6 x7 x8 x9 x10 x11 x12 x13 x14 x15 x16 x17 x18) (k0_pay118 x0 x1 x2 x3 x4 x5 x6 x7 x8 x9 x10 x11 x12 x13 x14 x15 x16 x17 x18) (k0_pay78 (k0_pay117 x0 x1 x2 x3 x4 x5 x6 x7 x8 x9 x10 x11 x12 x13 x14 x15 x16 x17 x18)) (k0_pay79 (k0_pay118 x0 x1 x2 x3 x4 x5 x6 x7 x8 x9 x10 x11 x12 x13 x14 x15 x16 x17 x18)) (k0_pay80 (k0_pay117 x0 x1 x2 x3 x4 x5 x6 x7 x8 x9 x10 x11 x12 x13 x14 x15 x16 x17 x18)) (k0_pay81 (k0_pay118 x0 x1 x2 x3 x4 x5 x6 x7 x8 x9 x10 x11 x12 x13 x14 x15 x16 x17 x18))
    (k0_pay82 (k0_pay119 x0 x1 x2 x3 x4 x5 x6 x7 x8 x9 x10 x11 x12 x13 x14 x15 x16 x17 x18) (k0_pay120 x0 x1 x2 x3 x4 x5 x6 x7 x8 x9 x10 x11 x12 x13 x14 x15 x16 x17 x18) (k0_pay121 x0 x1 x2 x3 x4 x5 x6 x7 x8 x9 x10 x11 x12 x13 x14 x15 x16 x17 x18) (k0_pay122 x0 x1 x2 x3 x4 x5 x6 x7 x8 x9 x10 x11 x12 x13 x14 x15 x16 x17 x18) (k0_pay123 x0 x1 x2 x3 x4 x5 x6 x7 x8 x9 x10 x11 x12 x13 x14 x15 x16 x17 x18) (View.ld x7 r0_25) (View.ld x7 r0_26) (View.ld x7 r0_27) (View.ld x7 r0_28))
    (k0_pay83 (k0_pay119 x0 x1 x2 x3 x4 x5 x6 x7 x8 x9 x10 x11 x12 x13 x14 x15 x16 x17 x18) (k0_pay120 x0 x1 x2 x3 x4 x5 x6 x7 x8 x9 x10 x11 x12 x13 x14 x15 x16 x17 x18) (k0_pay121 x0 x1 x2 x3 x4 x5 x6 x7 x8 x9 x10 x11 x12 x13 x14 x15 x16 x17 x18) (k0_pay122 x0 x1 x2 x3 x4 x5 x6 x7 x8 x9 x10 x11 x12 x13 x14 x15 x16 x17 x18) (k0_pay123 x0 x1 x2 x3 x4 x5 x6 x7 x8 x9 x10 x11 x12 x13 x14 x15 x16 x17 x18) (View.ld x7 r0_25) (View.ld x7 r0_26) (View.ld x7 r0_27) (View.ld x7 r0_29))
    (k0_pay84 (k0_pay119 x0 x1 x2 x3 x4 x5 x6 x7 x8 x9 x10 x11 x12 x13 x14 x15 x16 x17 x18) (k0_pay120 x0 x1 x2 x3 x4 x5 x6 x7 x8 x9 x10 x11 x12 x13 x14 x15 x16 x17 x18) (k0_pay121 x0 x1 x2 x3 x4 x5 x6 x7 x8 x9 x10 x11 x12 x13 x14 x15 x16 x17 x18) (k0_pay122 x0 x1 x2 x3 x4 x5 x6 x7 x8 x9 x10 x11 x12 x13 x14 x15 x16 x17 x18) (k0_pay123 x0 x1 x2 x3 x4 x5 x6 x7 x8 x9 x10 x11 x12 x13 x14 x15 x16 x17 x18) (View.ld x7 r0_25) (View.ld x7 r0_26) (View.ld x7 r0_27) (View.ld x7 r0_30))
    (k0_pay85 (k0_pay117 x0 x1 x2 x3 x4 x5 x6 x7 x8 x9 x10 x11 x12 x13 x14 x15 x16 x17 x18) (k0_pay119 x0 x1 x2 x3 x4 x5 x6 x7 x8 x9 x10 x11 x12 x13 x14 x15 x16 x17 x18) (k0_pay120 x0 x1 x2 x3 x4 x5 x6 x7 x8 x9 x10 x11 x12 x13 x14 x15 x16 x17 x18) (k0_pay121 x0 x1 x2 x3 x4 x5 x6 x7 x8 x9 x10 x11 x12 x13 x14 x15 x16 x17 x18) (k0_pay122 x0 x1 x2 x3 x4 x5 x6 x7 x8 x9 x10 x11 x12 x13 x14 x15 x16 x17 x18) (k0_pay123 x0 x1 x2 x3 x4 x5 x6 x7 x8 x9 x10 x11 x12 x13 x14 x15 x16 x17 x18) (View.ld x7 r0_25) (View.ld x7 r0_26) (View.ld x7 r0_27))
    (View.ld x7 r0_31) (View.ld x7 r0_32) (View.ld x7 r0_33) (View.ld x7 r0_34)

theorem stateOne_eq : stateOne x0 x1 x2 x3 x4 x5 x6 x7 x8 x9 x10 x11 x12 x13 x14 x15 x16 x17 x18 = kernelLayer (k0_pay99 x0 x1 x2 x3 x4 x5 x6 x7 x8 x9 x10 x11 x12 x13 x14 x15 x16 x17 x18) (k0_pay100 x0 x1 x2 x3 x4 x5 x6 x7 x8 x9 x10 x11 x12 x13 x14 x15 x16 x17 x18) (k0_pay23 (F := Ideal)) (tablesOf x7) :=
  layer_first (M := tablesOf x7) (v182 := (k0_pay92 x0 x1 x2 x3 x4 x5 x6 x7 x8 x9 x10 x11 x12 x13 x14 x15 x16 x17 x18)) (v185 := (k0_pay93 x0 x1 x2 x3 x4 x5 x6 x7 x8 x9 x10 x11 x12 x13 x14 x15 x16 x17 x18)) (v189 := (k0_pay94 x0 x1 x2 x3 x4 x5 x6 x7 x8 x9 x10 x11 x12 x13 x14 x15 x16 x17 x18)) (v192 := (k0_pay95 x0 x1 x2 x3 x4 x5 x6 x7 x8 x9 x10 x11 x12 x13 x14 x15 x16 x17 x18)) (v195 := (k0_pay96 x0 x1 x2 x3 x4 x5 x6 x7 x8 x9 x10 x11 x12 x13 x14 x15 x16 x17 x18)) (v196 := (k0_pay97 x0 x1 x2 x3 x4 x5 x6 x7 x8 x9 x10 x11 x12 x13 x14 x15 x16 x17 x18))
    (σ := k0_pay23 (F := Ideal)) (c := k0_pay99 x0 x1 x2 x3 x4 x5 x6 x7 x8 x9 x10 x11 x12 x13 x14 x15 x16 x17 x18) (s := k0_pay100 x0 x1 x2 x3 x4 x5 x6 x7 x8 x9 x10 x11 x12 x13 x14 x15 x16 x17 x18) rfl rfl (k0_pay101 x0 x1 x2 x3 x4 x5 x6 x7 x8 x9 x10 x11 x12 x13 x14 x15 x16 x17 x18) rfl (k0_pay102 x0 x1 x2 x3 x4 x5 x6 x7 x8 x9 x10 x11 x12 x13 x14 x15 x16 x17 x18) (k0_pay103 x0 x1 x2 x3 x4 x5 x6 x7 x8 x9 x10 x11 x12 x13 x14 x15 x16 x17 x18) (k0_pay104 x0 x1 x2 x3 x4 x5 x6 x7 x8 x9 x10 x11 x12 x13 x14 x15 x16 x17 x18) (k0_pay105 x0 x1 x2 x3 x4 x5 x6 x7 x8 x9 x10 x11 x12 x13 x14 x15 x16 x17 x18) rfl rfl rfl rfl (k0_pay106 x0 x1 x2 x3 x4 x5 x6 x7 x8 x9 x10 x11 x12 x13 x14 x15 x16 x17 x18) rfl

theorem stateTwo_eq : stateTwo x0 x1 x2 x3 x4 x5 x6 x7 x8 x9 x10 x11 x12 x13 x14 x15 x16 x17 x18 = kernelLayer (k0_pay108 x0 x1 x2 x3 x4 x5 x6 x7 x8 x9 x10 x11 x12 x13 x14 x15 x16 x17 x18) (k0_pay109 x0 x1 x2 x3 x4 x5 x6 x7 x8 x9 x10 x11 x12 x13 x14 x15 x16 x17 x18) (stateOne x0 x1 x2 x3 x4 x5 x6 x7 x8 x9 x10 x11 x12 x13 x14 x15 x16 x17 x18) (tablesOf x7) :=
  layer_second (M := tablesOf x7) (v182 := (k0_pay92 x0 x1 x2 x3 x4 x5 x6 x7 x8 x9 x10 x11 x12 x13 x14 x15 x16 x17 x18)) (v185 := (k0_pay93 x0 x1 x2 x3 x4 x5 x6 x7 x8 x9 x10 x11 x12 x13 x14 x15 x16 x17 x18)) (v189 := (k0_pay94 x0 x1 x2 x3 x4 x5 x6 x7 x8 x9 x10 x11 x12 x13 x14 x15 x16 x17 x18)) (v192 := (k0_pay95 x0 x1 x2 x3 x4 x5 x6 x7 x8 x9 x10 x11 x12 x13 x14 x15 x16 x17 x18)) (σ := stateOne x0 x1 x2 x3 x4 x5 x6 x7 x8 x9 x10 x11 x12 x13 x14 x15 x16 x17 x18) (v324 := k0_pay107 x0 x1 x2 x3 x4 x5 x6 x7 x8 x9 x10 x11 x12 x13 x14 x15 x16 x17 x18) (c := k0_pay108 x0 x1 x2 x3 x4 x5 x6 x7 x8 x9 x10 x11 x12 x13 x14 x15 x16 x17 x18) (s := k0_pay109 x0 x1 x2 x3 x4 x5 x6 x7 x8 x9 x10 x11 x12 x13 x14 x15 x16 x17 x18)
    rfl rfl (k0_pay110 x0 x1 x2 x3 x4 x5 x6 x7 x8 x9 x10 x11 x12 x13 x14 x15 x16 x17 x18) rfl (k0_pay111 x0 x1 x2 x3 x4 x5 x6 x7 x8 x9 x10 x11 x12 x13 x14 x15 x16 x17 x18) (k0_pay112 x0 x1 x2 x3 x4 x5 x6 x7 x8 x9 x10 x11 x12 x13 x14 x15 x16 x17 x18) (k0_pay113 x0 x1 x2 x3 x4 x5 x6 x7 x8 x9 x10 x11 x12 x13 x14 x15 x16 x17 x18) (k0_pay114 x0 x1 x2 x3 x4 x5 x6 x7 x8 x9 x10 x11 x12 x13 x14 x15 x16 x17 x18) rfl rfl rfl rfl (k0_pay115 x0 x1 x2 x3 x4 x5 x6 x7 x8 x9 x10 x11 x12 x13 x14 x15 x16 x17 x18) rfl

theorem squares_eq : squares x0 x1 x2 x3 x4 x5 x6 x7 x8 x9 x10 x11 x12 x13 x14 x15 x16 x17 x18 = mulf (kernelLayer (k0_pay117 x0 x1 x2 x3 x4 x5 x6 x7 x8 x9 x10 x11 x12 x13 x14 x15 x16 x17 x18) (k0_pay118 x0 x1 x2 x3 x4 x5 x6 x7 x8 x9 x10 x11 x12 x13 x14 x15 x16 x17 x18) (stateTwo x0 x1 x2 x3 x4 x5 x6 x7 x8 x9 x10 x11 x12 x13 x14 x15 x16 x17 x18) (tablesOf x7))
    (kernelLayer (k0_pay117 x0 x1 x2 x3 x4 x5 x6 x7 x8 x9 x10 x11 x12 x13 x14 x15 x16 x17 x18) (k0_pay118 x0 x1 x2 x3 x4 x5 x6 x7 x8 x9 x10 x11 x12 x13 x14 x15 x16 x17 x18) (stateTwo x0 x1 x2 x3 x4 x5 x6 x7 x8 x9 x10 x11 x12 x13 x14 x15 x16 x17 x18) (tablesOf x7)) :=
  layer_third (M := tablesOf x7) (v182 := (k0_pay92 x0 x1 x2 x3 x4 x5 x6 x7 x8 x9 x10 x11 x12 x13 x14 x15 x16 x17 x18)) (v185 := (k0_pay93 x0 x1 x2 x3 x4 x5 x6 x7 x8 x9 x10 x11 x12 x13 x14 x15 x16 x17 x18)) (v189 := (k0_pay94 x0 x1 x2 x3 x4 x5 x6 x7 x8 x9 x10 x11 x12 x13 x14 x15 x16 x17 x18)) (v192 := (k0_pay95 x0 x1 x2 x3 x4 x5 x6 x7 x8 x9 x10 x11 x12 x13 x14 x15 x16 x17 x18)) (σ := stateTwo x0 x1 x2 x3 x4 x5 x6 x7 x8 x9 x10 x11 x12 x13 x14 x15 x16 x17 x18) (v452 := k0_pay116 x0 x1 x2 x3 x4 x5 x6 x7 x8 x9 x10 x11 x12 x13 x14 x15 x16 x17 x18) (c := k0_pay117 x0 x1 x2 x3 x4 x5 x6 x7 x8 x9 x10 x11 x12 x13 x14 x15 x16 x17 x18) (s := k0_pay118 x0 x1 x2 x3 x4 x5 x6 x7 x8 x9 x10 x11 x12 x13 x14 x15 x16 x17 x18)
    rfl rfl (k0_pay119 x0 x1 x2 x3 x4 x5 x6 x7 x8 x9 x10 x11 x12 x13 x14 x15 x16 x17 x18) rfl (k0_pay120 x0 x1 x2 x3 x4 x5 x6 x7 x8 x9 x10 x11 x12 x13 x14 x15 x16 x17 x18) (k0_pay121 x0 x1 x2 x3 x4 x5 x6 x7 x8 x9 x10 x11 x12 x13 x14 x15 x16 x17 x18) (k0_pay122 x0 x1 x2 x3 x4 x5 x6 x7 x8 x9 x10 x11 x12 x13 x14 x15 x16 x17 x18) (k0_pay123 x0 x1 x2 x3 x4 x5 x6 x7 x8 x9 x10 x11 x12 x13 x14 x15 x16 x17 x18) rfl rfl rfl rfl

variable (h : Block x0 x1 x2 x3 x4 x5 x6 x7 x8 x9 x10 x11 x12 x13 x14 x15 x16 x17 x18 a s)
include h

theorem block_tables : AllTables (tablesOf x7) := by
  refine h.tables _ fun t κ n => ?_
  fin_cases t <;> (unfold tablesOf; simp; pointwise [])

/-- The squares of the last state's amplitudes. -/
theorem block_state : Reals (squares x0 x1 x2 x3 x4 x5 x6 x7 x8 x9 x10 x11 x12 x13 x14 x15 x16 x17 x18)
    fun b k => circuit a.θ (a.angle (s + b)) k * circuit a.θ (a.angle (s + b)) k := by
  have hf := block_first x0 x1 x2 x3 x4 x5 x6 x7 x8 x9 x10 x11 x12 x13 x14 x15 x16 x17 x18 a s h
  have hM := block_tables x0 x1 x2 x3 x4 x5 x6 x7 x8 x9 x10 x11 x12 x13 x14 x15 x16 x17 x18 a s h
  have hpos : ∀ b j, 0 ≤ (fun b => a.flat (s + b)) b j := fun b j => a.flat_nonneg _ _
  have c0 : Reals (k0_pay92 x0 x1 x2 x3 x4 x5 x6 x7 x8 x9 x10 x11 x12 x13 x14 x15 x16 x17 x18) fun b q => Real.cos (a.angle (s + b) q / 2) := pay24_reals _ _ _ _ hpos hf
  have s0 : Reals (k0_pay93 x0 x1 x2 x3 x4 x5 x6 x7 x8 x9 x10 x11 x12 x13 x14 x15 x16 x17 x18) fun b q => Real.sin (a.angle (s + b) q / 2) := pay25_reals _ _ _ _ hpos hf
  have hθ : Reals (View.ld x6 r0_21) a.θ := by
    intro d q
    pointwise []
    exact h.θ d q
  have c1 : Reals (k0_pay99 x0 x1 x2 x3 x4 x5 x6 x7 x8 x9 x10 x11 x12 x13 x14 x15 x16 x17 x18) fun b q => Real.cos ((a.θ 0 q + a.angle (s + b) q) / 2) := cos_first s0 hθ _ _ _ c0
  have s1 : Reals (k0_pay100 x0 x1 x2 x3 x4 x5 x6 x7 x8 x9 x10 x11 x12 x13 x14 x15 x16 x17 x18) fun b q => Real.sin ((a.θ 0 q + a.angle (s + b) q) / 2) := sin_first c0 s0 hθ
  have c2 : Reals (k0_pay108 x0 x1 x2 x3 x4 x5 x6 x7 x8 x9 x10 x11 x12 x13 x14 x15 x16 x17 x18) fun b q => Real.cos ((a.θ 1 q + a.angle (s + b) q) / 2) := cos_second c0 s0 hθ
  have s2 : Reals (k0_pay109 x0 x1 x2 x3 x4 x5 x6 x7 x8 x9 x10 x11 x12 x13 x14 x15 x16 x17 x18) fun b q => Real.sin ((a.θ 1 q + a.angle (s + b) q) / 2) := sin_second c0 s0 hθ
  have c3 : Reals (k0_pay117 x0 x1 x2 x3 x4 x5 x6 x7 x8 x9 x10 x11 x12 x13 x14 x15 x16 x17 x18) fun b q => Real.cos ((a.θ 2 q + a.angle (s + b) q) / 2) := cos_third c0 s0 hθ
  have s3 : Reals (k0_pay118 x0 x1 x2 x3 x4 x5 x6 x7 x8 x9 x10 x11 x12 x13 x14 x15 x16 x17 x18) fun b q => Real.sin ((a.θ 2 q + a.angle (s + b) q) / 2) := sin_third c0 s0 hθ
  have l1 := kernelLayer_reals c1 s1 pay23_reals hM
  rw [← stateOne_eq] at l1
  have l2 := kernelLayer_reals c2 s2 l1 hM
  rw [← stateTwo_eq] at l2
  have l3 := kernelLayer_reals c3 s3 l2 hM
  intro b k
  rw [squares_eq]
  have l3 := l3 b k
  pointwise []
  rw [l3]
  norm_cast

/-- The block's results. -/
theorem block_result (b : Fin 256) (o : Fin 10) : out0_19 x0 x1 x2 x3 x4 x5 x6 x7 x8 x9 x10 x11 x12 x13 x14 x15 x16 x17 x18 (ix2 b o) = a.result (s + b) o := by
  have hc := block_classical x0 x1 x2 x3 x4 x5 x6 x7 x8 x9 x10 x11 x12 x13 x14 x15 x16 x17 x18 a s h b
  have hm := block_mean x0 x1 x2 x3 x4 x5 x6 x7 x8 x9 x10 x11 x12 x13 x14 x15 x16 x17 x18 a s h b
  have hs := block_state x0 x1 x2 x3 x4 x5 x6 x7 x8 x9 x10 x11 x12 x13 x14 x15 x16 x17 x18 a s h b
  refine (congrFun (View.canon_cons_unit_lit _ _ [] (by decide)) (ix2 b o)).trans ?_
  refine pay87_eq _ _ _ _ _ _ _ _ _ _ _ _ _ _ a (s + b) b hc hm ?_ ?_ ?_ ?_ ?_ ?_ ?_ ?_ ?_ ?_ ?_ o
  · intro q
    unfold Args.spins Net.expect
    rw [coe_sum, ← sum_fin]
    refine sum_congr rfl fun k _ => ?_
    refine (congrArg (· * _) (hs k)).trans ?_
    pointwise []
    rw [h.spins]
    norm_cast
  · intro i j
    pointwise []
    exact h.q2c i j
  · intro j
    pointwise []
    exact h.q2cb j
  · intro i j
    pointwise []
    exact h.bq i j
  · intro j
    pointwise []
    exact h.bqb j
  · intro i j
    pointwise []
    exact h.bf i j
  · intro j
    pointwise []
    exact h.bfb j
  · intro i j
    pointwise []
    exact h.int i j
  · intro j
    pointwise []
    exact h.intb j
  · intro i j
    pointwise []
    exact h.fc2 i j
  · intro j
    pointwise []
    exact h.fc2b j

end Cert.Proof

end
-- ==== Proof.KernelOut.lean ====
/- The kernel's result array: the network's results. -/
module

public import proofs.«01_k».proof.Proof.KernelArrays
public import proofs.«01_k».proof.Proof.KernelState

@[expose] public section

noncomputable section

namespace Cert.Proof

open Idealize.ShloMosaic Idealize.ShloMosaic.TcCoe Cert.KernelIdeal Cert.KernelIdeal.Gen Idealize.ShloMosaic.Pipeline Cert.Net

variable (m : (ℓ : Loc nD τ sig) → Buf (Elt Ideal) ℓ) (c : Dev nD)

/-- Grid point `t` reads its 256 images. -/
theorem iblk0 (t : Fin cfg0.N) (h : Fin 30) (b : Fin 256) (n : Fin 84) (hb : t.val * 256 + b.val < 2048) :
    (iblk m c 0 t : Vec Ideal S30x256x84 .f32) (ix3 h b n) = V m c main_v4 (ix3 h ⟨t.val * 256 + b, hb⟩ n) := by
  have e : ∀ t : Fin cfg0.N, win0_0.index t = ![0, t.val, 0] := by decide +kernel
  unfold iblk
  rw [View.read_apply]
  refine congrArg (V m c main_v4) ?_
  funext i
  apply Fin.ext
  fin_cases i <;> blk_simp [e] <;> rfl

/-! Every grid point reads the whole of each other array. -/

theorem iblk1 (t : Fin cfg0.N) : (iblk m c 1 t : Vec Ideal S2x252x448 .f32) = V m c main_v7 := by
  have e : ∀ t : Fin cfg0.N, win0_1.index t = ![0, 0, 0] := by decide +kernel
  unfold iblk
  funext y
  rw [View.read_apply]
  refine congrArg (V m c main_v7) ?_
  funext i
  apply Fin.ext
  fin_cases i <;> blk_simp [e] <;> rfl

theorem iblk2 (t : Fin cfg0.N) : (iblk m c 2 t : Vec Ideal S3x448x768 .f32) = V m c main_v10 := by
  have e : ∀ t : Fin cfg0.N, win0_2.index t = ![0, 0, 0] := by decide +kernel
  unfold iblk
  funext y
  rw [View.read_apply]
  refine congrArg (V m c main_v10) ?_
  funext i
  apply Fin.ext
  fin_cases i <;> blk_simp [e] <;> rfl

theorem iblk3 (t : Fin cfg0.N) : (iblk m c 3 t : Vec Ideal S6x384x512 .f32) = V m c main_v13 := by
  have e : ∀ t : Fin cfg0.N, win0_3.index t = ![0, 0, 0] := by decide +kernel
  unfold iblk
  funext y
  rw [View.read_apply]
  refine congrArg (V m c main_v13) ?_
  funext i
  apply Fin.ext
  fin_cases i <;> blk_simp [e] <;> rfl

theorem iblk4 (t : Fin cfg0.N) : (iblk m c 4 t : Vec Ideal S6x384x72 .f32) = V m c main_v17 := by
  have e : ∀ t : Fin cfg0.N, win0_4.index t = ![0, 0, 0] := by decide +kernel
  unfold iblk
  funext y
  rw [View.read_apply]
  refine congrArg (V m c main_v17) ?_
  funext i
  apply Fin.ext
  fin_cases i <;> blk_simp [e] <;> rfl

theorem iblk5 (t : Fin cfg0.N) : (iblk m c 5 t : Vec Ideal S1x1344 .f32) = V m c main_v27 := by
  have e : ∀ t : Fin cfg0.N, win0_5.index t = ![0, 0] := by decide +kernel
  unfold iblk
  funext y
  rw [View.read_apply]
  refine congrArg (V m c main_v27) ?_
  funext i
  apply Fin.ext
  fin_cases i <;> blk_simp [e] <;> rfl

theorem iblk6 (t : Fin cfg0.N) : (iblk m c 6 t : Vec Ideal S3x8 .f32) = V m c main_arg17 := by
  have e : ∀ t : Fin cfg0.N, win0_6.index t = ![0, 0] := by decide +kernel
  unfold iblk
  funext y
  rw [View.read_apply]
  refine congrArg (V m c main_arg17) ?_
  funext i
  apply Fin.ext
  fin_cases i <;> blk_simp [e] <;> rfl

theorem iblk7 (t : Fin cfg0.N) : (iblk m c 7 t : Vec Ideal S13x256x256 .f32) = V m c main_v21 := by
  have e : ∀ t : Fin cfg0.N, win0_7.index t = ![0, 0, 0] := by decide +kernel
  unfold iblk
  funext y
  rw [View.read_apply]
  refine congrArg (V m c main_v21) ?_
  funext i
  apply Fin.ext
  fin_cases i <;> blk_simp [e] <;> rfl

theorem iblk8 (t : Fin cfg0.N) : (iblk m c 8 t : Vec Ideal S256x8 .f32) = V m c main_cst_4 := by
  have e : ∀ t : Fin cfg0.N, win0_8.index t = ![0, 0] := by decide +kernel
  unfold iblk
  funext y
  rw [View.read_apply]
  refine congrArg (V m c main_cst_4) ?_
  funext i
  apply Fin.ext
  fin_cases i <;> blk_simp [e] <;> rfl

theorem iblk9 (t : Fin cfg0.N) : (iblk m c 9 t : Vec Ideal S64x8 .f32) = V m c main_arg9 := by
  have e : ∀ t : Fin cfg0.N, win0_9.index t = ![0, 0] := by decide +kernel
  unfold iblk
  funext y
  rw [View.read_apply]
  refine congrArg (V m c main_arg9) ?_
  funext i
  apply Fin.ext
  fin_cases i <;> blk_simp [e] <;> rfl

theorem iblk10 (t : Fin cfg0.N) : (iblk m c 10 t : Vec Ideal S1x64 .f32) = V m c main_v28 := by
  have e : ∀ t : Fin cfg0.N, win0_10.index t = ![0, 0] := by decide +kernel
  unfold iblk
  funext y
  rw [View.read_apply]
  refine congrArg (V m c main_v28) ?_
  funext i
  apply Fin.ext
  fin_cases i <;> blk_simp [e] <;> rfl

theorem iblk11 (t : Fin cfg0.N) : (iblk m c 11 t : Vec Ideal S32x64 .f32) = V m c main_arg11 := by
  have e : ∀ t : Fin cfg0.N, win0_11.index t = ![0, 0] := by decide +kernel
  unfold iblk
  funext y
  rw [View.read_apply]
  refine congrArg (V m c main_arg11) ?_
  funext i
  apply Fin.ext
  fin_cases i <;> blk_simp [e] <;> rfl

theorem iblk12 (t : Fin cfg0.N) : (iblk m c 12 t : Vec Ideal S1x32 .f32) = V m c main_v29 := by
  have e : ∀ t : Fin cfg0.N, win0_12.index t = ![0, 0] := by decide +kernel
  unfold iblk
  funext y
  rw [View.read_apply]
  refine congrArg (V m c main_v29) ?_
  funext i
  apply Fin.ext
  fin_cases i <;> blk_simp [e] <;> rfl

theorem iblk13 (t : Fin cfg0.N) : (iblk m c 13 t : Vec Ideal S32x64 .f32) = V m c main_arg13 := by
  have e : ∀ t : Fin cfg0.N, win0_13.index t = ![0, 0] := by decide +kernel
  unfold iblk
  funext y
  rw [View.read_apply]
  refine congrArg (V m c main_arg13) ?_
  funext i
  apply Fin.ext
  fin_cases i <;> blk_simp [e] <;> rfl

theorem iblk14 (t : Fin cfg0.N) : (iblk m c 14 t : Vec Ideal S1x32 .f32) = V m c main_v30 := by
  have e : ∀ t : Fin cfg0.N, win0_14.index t = ![0, 0] := by decide +kernel
  unfold iblk
  funext y
  rw [View.read_apply]
  refine congrArg (V m c main_v30) ?_
  funext i
  apply Fin.ext
  fin_cases i <;> blk_simp [e] <;> rfl

theorem iblk15 (t : Fin cfg0.N) : (iblk m c 15 t : Vec Ideal S512x544 .f32) = V m c main_arg15 := by
  have e : ∀ t : Fin cfg0.N, win0_15.index t = ![0, 0] := by decide +kernel
  unfold iblk
  funext y
  rw [View.read_apply]
  refine congrArg (V m c main_arg15) ?_
  funext i
  apply Fin.ext
  fin_cases i <;> blk_simp [e] <;> rfl

theorem iblk16 (t : Fin cfg0.N) : (iblk m c 16 t : Vec Ideal S1x512 .f32) = V m c main_v31 := by
  have e : ∀ t : Fin cfg0.N, win0_16.index t = ![0, 0] := by decide +kernel
  unfold iblk
  funext y
  rw [View.read_apply]
  refine congrArg (V m c main_v31) ?_
  funext i
  apply Fin.ext
  fin_cases i <;> blk_simp [e] <;> rfl

theorem iblk17 (t : Fin cfg0.N) : (iblk m c 17 t : Vec Ideal S10x512 .f32) = V m c main_arg7 := by
  have e : ∀ t : Fin cfg0.N, win0_17.index t = ![0, 0] := by decide +kernel
  unfold iblk
  funext y
  rw [View.read_apply]
  refine congrArg (V m c main_arg7) ?_
  funext i
  apply Fin.ext
  fin_cases i <;> blk_simp [e] <;> rfl

theorem iblk18 (t : Fin cfg0.N) : (iblk m c 18 t : Vec Ideal S1x10 .f32) = V m c main_v32 := by
  have e : ∀ t : Fin cfg0.N, win0_18.index t = ![0, 0] := by decide +kernel
  unfold iblk
  funext y
  rw [View.read_apply]
  refine congrArg (V m c main_v32) ?_
  funext i
  apply Fin.ext
  fin_cases i <;> blk_simp [e] <;> rfl

/-- The rotation angles are finite. -/
def Finite : Prop := ∀ (d : Fin 3) (q : Fin 8),
  (m (c, Proc.tc.devRef main_arg17) : (⟨2, ![3, 8]⟩ : Shape).Idx → EReal) (ix2 d q) = (((kArgs m c).θ d q : ℝ) : EReal)

/-- Grid point `t`'s blocks. -/
theorem block_at (hθ : Finite m c) (t : Fin cfg0.N) :
    Block (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (kArgs m c) (t.val * 256) where
  x h b n := by
    have ht : t.val < 8 := t.isLt
    rw [iblk0 m c t h b n (by omega)]
    exact v4_entry m c h _ n
  w1 o κ n := (congrFun (iblk1 m c t) _).trans (v7_entry m c o κ n)
  w2 kh κ n := (congrFun (iblk2 m c t) _).trans (v10_entry m c kh κ n)
  fc1 r κ n := (congrFun (iblk3 m c t) _).trans (v13_entry m c r κ n)
  maps r κ n := (congrFun (iblk4 m c t) _).trans (v17_entry m c r κ n)
  bias n := (congrFun (iblk5 m c t) _).trans (v27_entry m c n)
  θ d q := (congrFun (iblk6 m c t) _).trans ((congrFun (V_main_arg17 m c) _).trans (hθ d q))
  tables M hM := allTables m c M fun r κ n => (hM r κ n).trans (congrFun (iblk7 m c t) _)
  spins k q := (congrFun (iblk8 m c t) _).trans (cst4_entry m c k q)
  q2c i j := (congrFun (iblk9 m c t) _).trans ((congrFun (V_main_arg9 m c) _).trans (at2_ix _ i j))
  q2cb j := (congrFun (iblk10 m c t) _).trans (v28_entry m c j)
  bq i j := (congrFun (iblk11 m c t) _).trans ((congrFun (V_main_arg11 m c) _).trans (at2_ix _ i j))
  bqb j := (congrFun (iblk12 m c t) _).trans (v29_entry m c j)
  bf i j := (congrFun (iblk13 m c t) _).trans ((congrFun (V_main_arg13 m c) _).trans (at2_ix _ i j))
  bfb j := (congrFun (iblk14 m c t) _).trans (v30_entry m c j)
  int i j := (congrFun (iblk15 m c t) _).trans ((congrFun (V_main_arg15 m c) _).trans (at2_ix _ i j))
  intb j := (congrFun (iblk16 m c t) _).trans (v31_entry m c j)
  fc2 i j := (congrFun (iblk17 m c t) _).trans ((congrFun (V_main_arg7 m c) _).trans (at2_ix _ i j))
  fc2b j := (congrFun (iblk18 m c t) _).trans (v32_entry m c j)

/-- The result array. -/
theorem kernel_result (hθ : Finite m c) (i : S2048x10.Idx) :
    ((dats m 0 c).arrAt 19 cfg0.N : S2048x10.Idx → EReal) i = (kArgs m c).result (i 0) (i 1) := by
  refine (dats m 0 c).arrAt_forall_of_covers 19 (fun i v => v = (kArgs m c).result (i 0).val (i 1).val) (by decide +kernel)
    (fun t hf y => ?_) i
  have e : ∀ t : Fin cfg0.N, win0_19.index t = ![t.val, 0] := by decide +kernel
  blk_simp
  rw [after0_19, e]
  have h := block_result _ _ _ _ _ _ _ _ _ _ _ _ _ _ _ _ _ _ _ _ _ (block_at m c hθ t) (y 0) (y 1)
  refine Eq.trans (congrArg _ (?_ : y = ix2 (y 0) (y 1))) (h.trans ?_)
  · funext a
    fin_cases a <;> rfl
  · simp

end Cert.Proof

end
-- ==== Proof.Result.lean ====
/- The kernel and the reference end with equal results. -/
module

public import proofs.«01_k».proof.Defs
public import proofs.«01_k».proof.Proof.Gen.Pre_finite_theta
public import proofs.«01_k».proof.Proof.RefOut
public import proofs.«01_k».proof.Proof.KernelOut

@[expose] public section

noncomputable section

namespace Cert.Proof

open Idealize.ShloMosaic Idealize.SL.Sem Cert.Net

/-- An array all of whose absolute values are below infinity holds real numbers. -/
theorem real_of_below (v : FVec Ideal Cert.Pre_finite_theta.S3x8 .f32)
    (h : cmpf .olt (Host.absf v) (broadcastInDim Cert.Pre_finite_theta.S3x8 ![] Cert.Pre_finite_theta.Gen.facts.bcast_S_S3x8
      (constant Cert.Pre_finite_theta.S_ .f32 0x7F800000#32)) = fun _ => 1#1) (d : Fin 3) (q : Fin 8) :
    v (ix2 d q) = (((at2 v d q).toReal : ℝ) : EReal) := by
  rw [← at2_ix]
  have h' := congrFun h (ix2 d q)
  revert h'
  pointwise []
  intro h'
  have hlt : max (v (ix2 d q)) (-v (ix2 d q)) < ⊤ := by
    refine lt_of_lt_of_eq (?_ : max (v (ix2 d q)) (-v (ix2 d q)) < Ideal.ofBits .f32 2139095040#32) ?_
    · by_contra hn
      rw [show decide (FloatOps.absf (v (ix2 d q)) < Ideal.ofBits .f32 2139095040#32) = false from decide_eq_false hn] at h'
      exact absurd h' (by decide)
    · simp [Ideal.ofBits, Ideal.ieee]
  refine (EReal.coe_toReal (fun e => ?_) fun e => ?_).symm
  · rw [e] at hlt; simp at hlt
  · rw [e] at hlt; simp at hlt

/-- The finite angles, in the kernel's memory. -/
theorem kernel_finite {m : (ℓ : Loc Cert.KernelIdeal.nD Cert.KernelIdeal.τ Cert.KernelIdeal.sig) → Buf (Elt Ideal) ℓ}
    (hpre : Cert.Pre_KernelIdeal_finite_theta (hPre_finite_theta := Cert.Pre_finite_theta.Gen.facts) m)
    (c : Dev Cert.KernelIdeal.nD) : Finite m c := fun d q =>
  real_of_below (m (c, Proc.tc.devRef Cert.KernelIdeal.main_arg17)) (hpre c) d q

/-- The finite angles, in the reference's memory. -/
theorem ref_finite {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (c : Dev Cert.KernelIdeal.nD) (hθ : Finite m c) (ha : rArgs (StableHlo.launchContents m' c) = kArgs m c)
    (h17 : m' (c, Proc.tc.devRef Cert.ReferenceIdeal.main_arg17) = m (c, Proc.tc.devRef Cert.KernelIdeal.main_arg17)) :
    RFinite (StableHlo.launchContents m' c) := fun d q => by
  rw [ha]
  exact (congrFun h17 (ix2 d q)).trans (hθ d q)

/-- From memories that hold the same arguments, with finite rotation angles, the kernel and the reference end with the same
    2048 x 10 array of extended reals, and with their arguments unchanged. -/
theorem algebraic : Cert.algebraic_KernelIdeal_ReferenceIdeal_pre_finite_theta (hKernelIdeal := Cert.KernelIdeal.Gen.facts)
    (hReferenceIdeal := Cert.ReferenceIdeal.Gen.facts) (hPre_finite_theta := Cert.Pre_finite_theta.Gen.facts) := by
  intro m g m' g' hpre hagree
  refine ⟨fun c => (Cert.KernelIdeal.Gen.dats m 0 c).arrAt 19 Cert.KernelIdeal.cfg0.N, ?_, ?_⟩
  · exact Cert.KernelIdeal.Value.run_blocks m g
  · refine θ_run_mono (Cert.ReferenceIdeal.Value.run m' g') fun r hr c => ⟨(hr c).1.trans ?_, (hr c).2⟩
    obtain ⟨h0, h1, h2, h3, h4, h5, h6, h7, h8, h9, h10, h11, h12, h13, h14, h15, h16, h17⟩ := hagree c
    have ha : rArgs (StableHlo.launchContents m' c) = kArgs m c := by
      unfold rArgs kArgs
      congr 1
    have hθ := kernel_finite hpre c
    funext i
    refine Eq.trans ?_ (kernel_result m c hθ i).symm
    have h := ref_result (StableHlo.launchContents m' c) (ref_finite c hθ ha h17) (i 0) (i 1)
    rw [ha] at h
    refine Eq.trans (congrArg _ (?_ : i = ix2 (i 0) (i 1))) h
    funext a
    fin_cases a <;> rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_theta
public import proofs.«01_k».proof.Proof.Gen.KernelIdeal.Value
public import proofs.«01_k».proof.Proof.Gen.ReferenceIdeal.Run
public import proofs.«01_k».proof.Proof.Result
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, leaves its arguments and ends at rest. -/
theorem reference_frame : Cert.quiescent_ReferenceIdeal (hReferenceIdeal := Cert.ReferenceIdeal.Gen.facts) := by
  intro m g _
  exact θ_run_mono (Cert.ReferenceIdeal.Value.run m g) fun r h =>
    ⟨fun c => (h c).2, sem_eq_zero_of_no_sems (by decide) r.2⟩

theorem claim : Cert.Claim := ⟨Cert.Kernel.Gen.facts, Cert.KernelIdeal.Gen.facts, Cert.ReferenceIdeal.Gen.facts, Cert.Pre_finite_theta.Gen.facts,
  fun m g _ => Cert.Kernel.Gen.frame m g,
  fun m g _ => Cert.KernelIdeal.Gen.frame m g,
  fun m g _ => Cert.KernelIdeal.Gen.frame m g,
  fun m g _ => reference_frame m g trivial,
  fun m g _ => reference_frame m g trivial,
  trivial,
  algebraic⟩

end Cert.Proof

end
